-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_at_most_infinity [hPre_at_most_infinity : Cert.Pre_at_most_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_at_most_infinity.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_at_most_infinity [hPre_at_most_infinity : Cert.Pre_at_most_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_at_most_infinity.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_at_most_infinity [hKernelIdeal : Cert.KernelIdeal.Facts] [hPre_at_most_infinity : Cert.Pre_at_most_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_at_most_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_at_most_infinity [hReferenceIdeal : Cert.ReferenceIdeal.Facts] [hPre_at_most_infinity : Cert.Pre_at_most_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_at_most_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_at_most_infinity [hKernelIdeal : Cert.KernelIdeal.Facts] [hReferenceIdeal : Cert.ReferenceIdeal.Facts] [hPre_at_most_infinity : Cert.Pre_at_most_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_at_most_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_at_most_infinity : Cert.Pre_at_most_infinity.Facts),
    quiescent_Kernel (hKernel := hKernel)
    ∧ quiescent_KernelIdeal (hKernelIdeal := hKernelIdeal)
    ∧ quiescent_KernelIdeal_pre_at_most_infinity (hKernelIdeal := hKernelIdeal) (hPre_at_most_infinity := hPre_at_most_infinity)
    ∧ quiescent_ReferenceIdeal (hReferenceIdeal := hReferenceIdeal)
    ∧ quiescent_ReferenceIdeal_pre_at_most_infinity (hReferenceIdeal := hReferenceIdeal) (hPre_at_most_infinity := hPre_at_most_infinity)
    ∧ preserves_Kernel_KernelIdeal
    ∧ algebraic_KernelIdeal_ReferenceIdeal_pre_at_most_infinity (hKernelIdeal := hKernelIdeal) (hReferenceIdeal := hReferenceIdeal) (hPre_at_most_infinity := hPre_at_most_infinity)
-- ==== Pre_at_most_infinity.lean ====
abbrev S16x384x384 : Shape := ⟨3, ![16, 384, 384]⟩
abbrev S_ : Shape := ⟨0, ![]⟩

class Facts : Prop where
  bcast_S_S16x384x384 : S_.BroadcastsInDim S16x384x384 (![] : Fin 0 → Fin S16x384x384.rank)
  reducesTo_S16x384x384_S_d0_1_2 : S16x384x384.ReducesTo [0, 1, 2] S_
  h_S_ : 0 < S_.numel

variable [Facts]

def fn {F : FTy → Type} [FloatOps F] (main_arg0 : IVec S16x384x384 32) : IVec S_ 1 :=
  let main_c : IVec S_ 32 := constantI S_ 32 2139095040#32
  let main_v0 : IVec S16x384x384 32 := broadcastInDim S16x384x384 ![] bcast_S_S16x384x384 main_c
  let main_v1 : IVec S16x384x384 1 := cmpi .sle main_arg0 main_v0
  let main_c_0 : IVec S_ 1 := constantI S_ 1 1#1
  let main_v2 : IVec S_ 1 := (fun x v => Host.reduce IntOp.andi x v reducesTo_S16x384x384_S_d0_1_2 h_S_) main_v1 main_c_0
  main_v2
-- ==== Kernel.lean ====
abbrev S16x384x384 : Shape := ⟨3, ![16, 384, 384]⟩
abbrev S1x128 : Shape := ⟨2, ![1, 128]⟩
abbrev S8x384x384 : Shape := ⟨3, ![8, 384, 384]⟩
abbrev S16384x128 : Shape := ⟨2, ![16384, 128]⟩
abbrev S8x1152x128 : Shape := ⟨3, ![8, 1152, 128]⟩
abbrev S896x128 : Shape := ⟨2, ![896, 128]⟩
abbrev S1x1152x128 : Shape := ⟨3, ![1, 1152, 128]⟩
abbrev S1152x128 : Shape := ⟨2, ![1152, 128]⟩
abbrev S16384x1 : Shape := ⟨2, ![16384, 1]⟩
abbrev S1024x2x8x128 : Shape := ⟨4, ![1024, 2, 8, 128]⟩
abbrev S1024x1x8x128 : Shape := ⟨4, ![1024, 1, 8, 128]⟩
abbrev S1024x8x128 : Shape := ⟨3, ![1024, 8, 128]⟩
abbrev S1024x1x1 : Shape := ⟨3, ![1024, 1, 1]⟩
abbrev S512x2x16x128 : Shape := ⟨4, ![512, 2, 16, 128]⟩
abbrev S512x1x16x128 : Shape := ⟨4, ![512, 1, 16, 128]⟩
abbrev S512x16x128 : Shape := ⟨3, ![512, 16, 128]⟩
abbrev S512x1x1 : Shape := ⟨3, ![512, 1, 1]⟩
abbrev S256x2x32x128 : Shape := ⟨4, ![256, 2, 32, 128]⟩
abbrev S256x1x32x128 : Shape := ⟨4, ![256, 1, 32, 128]⟩
abbrev S256x32x128 : Shape := ⟨3, ![256, 32, 128]⟩
abbrev S256x1x1 : Shape := ⟨3, ![256, 1, 1]⟩
abbrev S128x2x64x128 : Shape := ⟨4, ![128, 2, 64, 128]⟩
abbrev S128x1x64x128 : Shape := ⟨4, ![128, 1, 64, 128]⟩
abbrev S128x64x128 : Shape := ⟨3, ![128, 64, 128]⟩
abbrev S128x1x1 : Shape := ⟨3, ![128, 1, 1]⟩
abbrev S64x2x128x128 : Shape := ⟨4, ![64, 2, 128, 128]⟩
abbrev S64x1x128x128 : Shape := ⟨4, ![64, 1, 128, 128]⟩
abbrev S64x128x128 : Shape := ⟨3, ![64, 128, 128]⟩
abbrev S64x1x1 : Shape := ⟨3, ![64, 1, 1]⟩
abbrev S32x2x256x128 : Shape := ⟨4, ![32, 2, 256, 128]⟩
abbrev S32x1x256x128 : Shape := ⟨4, ![32, 1, 256, 128]⟩
abbrev S32x256x128 : Shape := ⟨3, ![32, 256, 128]⟩
abbrev S32x1x1 : Shape := ⟨3, ![32, 1, 1]⟩
abbrev S16x2x512x128 : Shape := ⟨4, ![16, 2, 512, 128]⟩
abbrev S16x1x512x128 : Shape := ⟨4, ![16, 1, 512, 128]⟩
abbrev S16x512x128 : Shape := ⟨3, ![16, 512, 128]⟩
abbrev S16x1x1 : Shape := ⟨3, ![16, 1, 1]⟩
abbrev S8x2x1024x128 : Shape := ⟨4, ![8, 2, 1024, 128]⟩
abbrev S8x1x1024x128 : Shape := ⟨4, ![8, 1, 1024, 128]⟩
abbrev S8x1024x128 : Shape := ⟨3, ![8, 1024, 128]⟩
abbrev S1x1x128 : Shape := ⟨3, ![1, 1, 128]⟩
abbrev S16384x127 : Shape := ⟨2, ![16384, 127]⟩
abbrev S16384x2 : Shape := ⟨2, ![16384, 2]⟩
abbrev S16384x126 : Shape := ⟨2, ![16384, 126]⟩
abbrev S16384x4 : Shape := ⟨2, ![16384, 4]⟩
abbrev S16384x124 : Shape := ⟨2, ![16384, 124]⟩
abbrev S16384x8 : Shape := ⟨2, ![16384, 8]⟩
abbrev S16384x120 : Shape := ⟨2, ![16384, 120]⟩
abbrev S16384x16 : Shape := ⟨2, ![16384, 16]⟩
abbrev S16384x112 : Shape := ⟨2, ![16384, 112]⟩
abbrev S16384x32 : Shape := ⟨2, ![16384, 32]⟩
abbrev S16384x96 : Shape := ⟨2, ![16384, 96]⟩
abbrev S16384x64 : Shape := ⟨2, ![16384, 64]⟩
abbrev S1x1 : Shape := ⟨2, ![1, 1]⟩
abbrev S1x1x1 : Shape := ⟨3, ![1, 1, 1]⟩
abbrev S8x2048x128 : Shape := ⟨3, ![8, 2048, 128]⟩
abbrev S8x1x128 : Shape := ⟨3, ![8, 1, 128]⟩
abbrev S8x2047x128 : Shape := ⟨3, ![8, 2047, 128]⟩
abbrev S8x2x128 : Shape := ⟨3, ![8, 2, 128]⟩
abbrev S8x2046x128 : Shape := ⟨3, ![8, 2046, 128]⟩
abbrev S8x4x128 : Shape := ⟨3, ![8, 4, 128]⟩
abbrev S8x2044x128 : Shape := ⟨3, ![8, 2044, 128]⟩
abbrev S8x8x128 : Shape := ⟨3, ![8, 8, 128]⟩
abbrev S8x2040x128 : Shape := ⟨3, ![8, 2040, 128]⟩
abbrev S8x16x128 : Shape := ⟨3, ![8, 16, 128]⟩
abbrev S8x2032x128 : Shape := ⟨3, ![8, 2032, 128]⟩
abbrev S8x32x128 : Shape := ⟨3, ![8, 32, 128]⟩
abbrev S8x2016x128 : Shape := ⟨3, ![8, 2016, 128]⟩
abbrev S8x64x128 : Shape := ⟨3, ![8, 64, 128]⟩
abbrev S8x1984x128 : Shape := ⟨3, ![8, 1984, 128]⟩
abbrev S8x128x128 : Shape := ⟨3, ![8, 128, 128]⟩
abbrev S8x1920x128 : Shape := ⟨3, ![8, 1920, 128]⟩
abbrev S8x256x128 : Shape := ⟨3, ![8, 256, 128]⟩
abbrev S8x1792x128 : Shape := ⟨3, ![8, 1792, 128]⟩
abbrev S8x512x128 : Shape := ⟨3, ![8, 512, 128]⟩
abbrev S8x1536x128 : Shape := ⟨3, ![8, 1536, 128]⟩
abbrev S8x1x1 : Shape := ⟨3, ![8, 1, 1]⟩
abbrev S8x1x127 : Shape := ⟨3, ![8, 1, 127]⟩
abbrev S8x1x2 : Shape := ⟨3, ![8, 1, 2]⟩
abbrev S8x1x126 : Shape := ⟨3, ![8, 1, 126]⟩
abbrev S8x1x4 : Shape := ⟨3, ![8, 1, 4]⟩
abbrev S8x1x124 : Shape := ⟨3, ![8, 1, 124]⟩
abbrev S8x1x8 : Shape := ⟨3, ![8, 1, 8]⟩
abbrev S8x1x120 : Shape := ⟨3, ![8, 1, 120]⟩
abbrev S8x1x16 : Shape := ⟨3, ![8, 1, 16]⟩
abbrev S8x1x112 : Shape := ⟨3, ![8, 1, 112]⟩
abbrev S8x1x32 : Shape := ⟨3, ![8, 1, 32]⟩
abbrev S8x1x96 : Shape := ⟨3, ![8, 1, 96]⟩
abbrev S8x1x64 : Shape := ⟨3, ![8, 1, 64]⟩
abbrev S1x2048x128 : Shape := ⟨3, ![1, 2048, 128]⟩
abbrev S1x8x2048x128 : Shape := ⟨4, ![1, 8, 2048, 128]⟩
abbrev S1 : Shape := ⟨1, ![1]⟩
abbrev S1x1x1x1 : Shape := ⟨4, ![1, 1, 1, 1]⟩

abbrev nBuf : Space → Nat
  | .hbm => 2
  | .vmem => 4
  | .smem => 0
  | _ => 0

abbrev bufTy : (tb : Table) → Fin (tcTables nBuf tb) → BufTy
  | .hbm, ⟨0, _⟩ => ⟨S16x384x384, .i32⟩
  | .hbm, ⟨1, _⟩ => ⟨S1x128, .f32⟩
  | .local _ .vmem, ⟨0, _⟩ => ⟨S8x384x384, .i32⟩
  | .local _ .vmem, ⟨1, _⟩ => ⟨S8x384x384, .i32⟩
  | .local _ .vmem, ⟨2, _⟩ => ⟨S1x128, .f32⟩
  | .local _ .vmem, ⟨3, _⟩ => ⟨S16384x128, .i32⟩
  | _, _ => ⟨S16x384x384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x384x384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S16x384x384 : Shape := ⟨3, ![16, 384, 384]⟩
abbrev S_ : Shape := ⟨0, ![]⟩
abbrev S16x147456 : Shape := ⟨2, ![16, 147456]⟩
abbrev S147456 : Shape := ⟨1, ![147456]⟩
abbrev S16x147456x1 : Shape := ⟨3, ![16, 147456, 1]⟩
abbrev S16 : Shape := ⟨1, ![16]⟩
abbrev S16x1 : Shape := ⟨2, ![16, 1]⟩
abbrev S16x147455 : Shape := ⟨2, ![16, 147455]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S16x384x384, .i32⟩
  | .hbm, ⟨1, _⟩ => ⟨S_, .i32⟩
  | .hbm, ⟨2, _⟩ => ⟨S16x384x384, .i32⟩
  | .hbm, ⟨3, _⟩ => ⟨S16x384x384, .i32⟩
  | .hbm, ⟨4, _⟩ => ⟨S_, .i32⟩
  | .hbm, ⟨5, _⟩ => ⟨S16x384x384, .i32⟩
  | .hbm, ⟨6, _⟩ => ⟨S16x384x384, .i1⟩
  | .hbm, ⟨7, _⟩ => ⟨S_, .i32⟩
  | .hbm, ⟨8, _⟩ => ⟨S16x384x384, .i32⟩
  | .hbm, ⟨9, _⟩ => ⟨S16x384x384, .i32⟩
  | .hbm, ⟨10, _⟩ => ⟨S16x384x384, .i32⟩
  | .hbm, ⟨11, _⟩ => ⟨S16x384x384, .f32⟩
  | .hbm, ⟨12, _⟩ => ⟨S16x384x384, .f32⟩
  | .hbm, ⟨13, _⟩ => ⟨S16x147456, .f32⟩
  | .hbm, ⟨14, _⟩ => ⟨S16x147456, .i32⟩
  | .hbm, ⟨15, _⟩ => ⟨S16x147456, .f32⟩
  | .hbm, ⟨16, _⟩ => ⟨S147456, .i32⟩
  | .hbm, ⟨17, _⟩ => ⟨S16x147456, .i32⟩
  | .hbm, ⟨18, _⟩ => ⟨S16x147456, .f32⟩
  | .hbm, ⟨19, _⟩ => ⟨S16x147456, .i32⟩
  | .hbm, ⟨20, _⟩ => ⟨S_, .i32⟩
  | .hbm, ⟨21, _⟩ => ⟨S16x147456, .i32⟩
  | .hbm, ⟨22, _⟩ => ⟨S16x147456, .i1⟩
  | .hbm, ⟨23, _⟩ => ⟨S_, .i32⟩
  | .hbm, ⟨24, _⟩ => ⟨S16x147456, .i32⟩
  | .hbm, ⟨25, _⟩ => ⟨S16x147456, .i32⟩
  | .hbm, ⟨26, _⟩ => ⟨S16x147456, .i32⟩
  | .hbm, ⟨27, _⟩ => ⟨S16x147456x1, .i32⟩
  | .hbm, ⟨28, _⟩ => ⟨S16x147456, .f32⟩
  | .hbm, ⟨29, _⟩ => ⟨S_, .i32⟩
  | .hbm, ⟨30, _⟩ => ⟨S16x147456, .i32⟩
  | .hbm, ⟨31, _⟩ => ⟨S16x147456, .i1⟩
  | .hbm, ⟨32, _⟩ => ⟨S_, .i32⟩
  | .hbm, ⟨33, _⟩ => ⟨S16x147456, .i32⟩
  | .hbm, ⟨34, _⟩ => ⟨S16x147456, .i32⟩
  | .hbm, ⟨35, _⟩ => ⟨S16x147456, .i32⟩
  | .hbm, ⟨36, _⟩ => ⟨S16x147456x1, .i32⟩
  | .hbm, ⟨37, _⟩ => ⟨S16x147456, .i32⟩
  | .hbm, ⟨38, _⟩ => ⟨S16x147456, .f32⟩
  | .hbm, ⟨39, _⟩ => ⟨S_, .f32⟩
  | .hbm, ⟨40, _⟩ => ⟨S16, .f32⟩
  | .hbm, ⟨41, _⟩ => ⟨S_, .f32⟩
  | .hbm, ⟨42, _⟩ => ⟨S_, .f32⟩
  | .hbm, ⟨43, _⟩ => ⟨S16x147456, .f32⟩
  | .hbm, ⟨44, _⟩ => ⟨S16x1, .f32⟩
  | .hbm, ⟨45, _⟩ => ⟨S16x147456, .f32⟩
  | .hbm, ⟨46, _⟩ => ⟨S16x147456, .f32⟩
  | .hbm, ⟨47, _⟩ => ⟨S_, .f32⟩
  | .hbm, ⟨48, _⟩ => ⟨S16x147456, .f32⟩
  | .hbm, ⟨49, _⟩ => ⟨S16x147456, .f32⟩
  | .hbm, ⟨50, _⟩ => ⟨S_, .f32⟩
  | .hbm, ⟨51, _⟩ => ⟨S_, .f32⟩
  | .hbm, ⟨52, _⟩ => ⟨S16x147456, .f32⟩
  | .hbm, ⟨53, _⟩ => ⟨S16x1, .f32⟩
  | .hbm, ⟨54, _⟩ => ⟨S16x147456, .f32⟩
  | .hbm, ⟨55, _⟩ => ⟨S16x147456, .f32⟩
  | .hbm, ⟨56, _⟩ => ⟨S_, .f32⟩
  | .hbm, ⟨57, _⟩ => ⟨S16x147456, .f32⟩
  | .hbm, ⟨58, _⟩ => ⟨S16x147456, .f32⟩
  | .hbm, ⟨59, _⟩ => ⟨S16x147456, .f32⟩
  | .hbm, ⟨60, _⟩ => ⟨S_, .f32⟩
  | .hbm, ⟨61, _⟩ => ⟨S16x147456, .f32⟩
  | .hbm, ⟨62, _⟩ => ⟨S16x147456, .f32⟩
  | .hbm, ⟨63, _⟩ => ⟨S16x1, .f32⟩
  | .hbm, ⟨64, _⟩ => ⟨S16x147455, .f32⟩
  | .hbm, ⟨65, _⟩ => ⟨S16x147455, .f32⟩
  | .hbm, ⟨66, _⟩ => ⟨S16x147455, .f32⟩
  | .hbm, ⟨67, _⟩ => ⟨S16x147456, .f32⟩
  | .hbm, ⟨68, _⟩ => ⟨S_, .f32⟩
  | .hbm, ⟨69, _⟩ => ⟨S16x147456, .f32⟩
  | .hbm, ⟨70, _⟩ => ⟨S16x147456, .f32⟩
  | .hbm, ⟨71, _⟩ => ⟨S16, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S1x128, .f32⟩
  | _, _ => ⟨S16x384x384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call1_v0 : Ref sig .tc := ⟨.hbm, 16, rfl⟩
abbrev main_call1_v1 : Ref sig .tc := ⟨.hbm, 17, rfl⟩
abbrev main_call1_v2_0 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_call2_call0_cst : Ref sig .tc := ⟨.hbm, 41, rfl⟩
abbrev main_call2_call0_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_call3_call0_cst : Ref sig .tc := ⟨.hbm, 50, rfl⟩
abbrev main_call3_call0_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call4_cst : Ref sig .tc := ⟨.hbm, 68, rfl⟩
abbrev main_call4_v0 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]
-- ==== Proof.Passes.lean ====
module

public import Idealize.ShloMosaic.PureOps
public import Idealize.ShloMosaic.Lib.ShapeFacts

@[expose] public section

/-!
# The kernel's arithmetic, one function per kind of step

The kernel sorts the packed keys of eight samples at once, in a scratch array of `16384 × 128` words: sample `s` owns the rows
`2048 * s … 2048 * s + 2047`, and the word at row `r` and lane `l` of a sample sits at position `r + 2048 * l` of that sample.
This file writes the vector operations of one pass of the network as functions of the pass's two numbers (`j`, the exponent of
the distance, and `k`, the exponent of the size of the runs being merged), and the loss computed from the sorted keys.
-/

namespace Lovasz

open Idealize.ShloMosaic

/-- The shape of the scratch array. -/
abbrev K : Shape := ⟨2, ![16384, 128]⟩
/-- One word per row of the scratch array. -/
abbrev KRow : Shape := ⟨2, ![16384, 1]⟩
/-- One word per lane of the scratch array. -/
abbrev KLane : Shape := ⟨2, ![1, 128]⟩
/-- The staged block of packed keys: eight samples. -/
abbrev X : Shape := ⟨3, ![8, 384, 384]⟩
/-- The block as rows of 128 lanes. -/
abbrev X' : Shape := ⟨3, ![8, 1152, 128]⟩
/-- The sorted keys, one plane per sample. -/
abbrev D : Shape := ⟨3, ![8, 2048, 128]⟩

/-- Contents of the scratch array. -/
abbrev Keys := IVec K 32

/-! ## Filling the scratch array -/

/-- The rows of sample `s` of a block. -/
def sample (x : IVec X' 32) (s : Nat) (h : X'.Slices ![s, 0, 0] ⟨3, ![1, 1152, 128]⟩) : IVec ⟨2, ![1152, 128]⟩ 32 :=
  shapeCast ⟨2, ![1152, 128]⟩ (extractStridedSlice ⟨3, ![1, 1152, 128]⟩ ![s, 0, 0] x h) (by decide)

/-- The rows of padding keys after each sample. -/
def padRows : IVec ⟨2, ![896, 128]⟩ 32 := broadcast ⟨2, ![896, 128]⟩ 2139095040#32

theorem concFill : Shape.Concatenates [⟨2, ![1152, 128]⟩, ⟨2, ![896, 128]⟩, ⟨2, ![1152, 128]⟩, ⟨2, ![896, 128]⟩, ⟨2, ![1152, 128]⟩,
    ⟨2, ![896, 128]⟩, ⟨2, ![1152, 128]⟩, ⟨2, ![896, 128]⟩, ⟨2, ![1152, 128]⟩, ⟨2, ![896, 128]⟩, ⟨2, ![1152, 128]⟩, ⟨2, ![896, 128]⟩,
    ⟨2, ![1152, 128]⟩, ⟨2, ![896, 128]⟩, ⟨2, ![1152, 128]⟩, ⟨2, ![896, 128]⟩] K 0 := by decide

/-- The scratch array before the first pass: each sample's rows, then its padding. -/
def fill (x : IVec X 32) : Keys :=
  let y : IVec X' 32 := shapeCast X' x (by decide)
  shapeCast K (concatenate K 0
    [⟨⟨2, ![1152, 128]⟩, sample y 0 (by decide)⟩, ⟨⟨2, ![896, 128]⟩, padRows⟩,
     ⟨⟨2, ![1152, 128]⟩, sample y 1 (by decide)⟩, ⟨⟨2, ![896, 128]⟩, padRows⟩,
     ⟨⟨2, ![1152, 128]⟩, sample y 2 (by decide)⟩, ⟨⟨2, ![896, 128]⟩, padRows⟩,
     ⟨⟨2, ![1152, 128]⟩, sample y 3 (by decide)⟩, ⟨⟨2, ![896, 128]⟩, padRows⟩,
     ⟨⟨2, ![1152, 128]⟩, sample y 4 (by decide)⟩, ⟨⟨2, ![896, 128]⟩, padRows⟩,
     ⟨⟨2, ![1152, 128]⟩, sample y 5 (by decide)⟩, ⟨⟨2, ![896, 128]⟩, padRows⟩,
     ⟨⟨2, ![1152, 128]⟩, sample y 6 (by decide)⟩, ⟨⟨2, ![896, 128]⟩, padRows⟩,
     ⟨⟨2, ![1152, 128]⟩, sample y 7 (by decide)⟩, ⟨⟨2, ![896, 128]⟩, padRows⟩] concFill) rfl

/-! ## One pass -/

/-- Bit `n` of a vector's words. -/
def bit {s : Shape} (x : IVec s 32) (n : Nat) : IVec s 32 :=
  andi (shrsi x (broadcast s (BitVec.ofNat 32 n))) (broadcast s 1#32)

/-- The row numbers. -/
def rows : IVec KRow 32 := iota .tc KRow 32 [0] (by decide)
/-- The lane numbers. -/
def lanes : IVec KLane 32 := iota .tc KLane 32 [1] (by decide)

/-- Every place takes its partner's key where that is the one it should keep: the smaller under `kp`, the larger under `nk`. -/
def exch (kp nk : IVec K 1) (pk key : Keys) : Keys :=
  shapeCast K (select (ori (andi kp (cmpi .slt pk key)) (andi nk (cmpi .sgt pk key))) pk key) rfl

theorem bRow : KRow.Broadcasts K := by decide
theorem bLane : KLane.Broadcasts K := by decide
theorem bOneRow : (⟨2, ![1, 1]⟩ : Shape).Broadcasts KRow := by decide
theorem bOneLane : (⟨2, ![1, 1]⟩ : Shape).Broadcasts KLane := by decide

/-- An exchange whose mask has one word per row. -/
def exchRow (bj bk : IVec KRow 32) (pk key : Keys) : Keys :=
  exch (broadcastTo K (cmpi .eq bj bk) bRow) (broadcastTo K (xori (cmpi .eq bj bk) (constantI KRow 1 1#1)) bRow) pk key

/-- An exchange whose mask has one word per lane. -/
def exchLane (bj bk : IVec KLane 32) (pk key : Keys) : Keys :=
  exch (broadcastTo K (cmpi .eq bj bk) bLane) (broadcastTo K (xori (cmpi .eq bj bk) (constantI KLane 1 1#1)) bLane) pk key

/-- An exchange whose mask compares a bit of the row number with a bit of the lane number. -/
def exchBoth (bj : IVec KRow 32) (bk : IVec KLane 32) (pk key : Keys) : Keys :=
  exch (cmpi .eq (broadcastTo K bj bRow) (broadcastTo K bk bLane))
    (xori (cmpi .eq (broadcastTo K bj bRow) (broadcastTo K bk bLane)) (constantI K 1 1#1)) pk key

/-- The partners' keys of a pass over rows at distance `2 ^ j`, read with two rotations. -/
def rowPartner (j : Nat) (key : Keys) : Keys :=
  select (broadcastTo K (shapeCast KRow (cmpi .eq (bit rows j) (broadcast KRow 1#32)) rfl) bRow)
    (dynamicRotate 0 (BitVec.ofNat 32 (2 ^ j)) none key (by decide))
    (dynamicRotate 0 (BitVec.ofNat 32 (16384 - 2 ^ j)) none key (by decide))

/-- A pass over rows at a distance below eight. -/
def smallPass (k j : Nat) (key : Keys) : Keys :=
  bif Nat.blt k 11 then exchRow (bit rows j) (bit rows k) (rowPartner j key) key
  else bif Nat.blt k 18 then exchBoth (bit rows j) (bit lanes (k - 11)) (rowPartner j key) key
  else exchRow (bit rows j) (broadcastTo KRow (broadcast ⟨2, ![1, 1]⟩ 0#32) bOneRow) (rowPartner j key) key

/-- The whole array as `g` groups of two halves of `s` rows. -/
abbrev Halves (g s : Nat) : Shape := ⟨4, ![g, 2, s, 128]⟩
/-- One half of every group, its unit axis kept. -/
abbrev Half1 (g s : Nat) : Shape := ⟨4, ![g, 1, s, 128]⟩
/-- One half of every group. -/
abbrev Half (g s : Nat) : Shape := ⟨3, ![g, s, 128]⟩

theorem castKH {g s : Nat} (h : g * 2 * s = 16384) : K.ShapeCasts (Halves g s) := by
  simp [Shape.ShapeCasts, Shape.numel_rank4, Shape.numel_rank2]; omega
theorem castHK {g s : Nat} (h : g * 2 * s = 16384) : (Halves g s).ShapeCasts K := (castKH h).symm
theorem castH1 (g s : Nat) : (Half1 g s).ShapeCasts (Half g s) := by
  simp [Shape.ShapeCasts, Shape.numel_rank4, Shape.numel_rank3]
theorem cast1H (g s : Nat) : (Half g s).ShapeCasts (Half1 g s) := (castH1 g s).symm
theorem sliceLow (g s : Nat) : (Halves g s).Slices ![0, 0, 0, 0] (Half1 g s) :=
  ⟨rfl, fun a => by fin_cases a <;> simp⟩
theorem sliceHigh (g s : Nat) : (Halves g s).Slices ![0, 1, 0, 0] (Half1 g s) :=
  ⟨rfl, fun a => by fin_cases a <;> simp⟩
theorem concHalves (g s : Nat) : Shape.Concatenates [Half1 g s, Half1 g s] (Halves g s) 1 :=
  Shape.concatenates_axis1_rank4 g 1 1 s 128

/-- A pass over rows as the smaller and the larger of the two halves of every group, ordered by the mask `asc`. -/
def halves (g s : Nat) (h : g * 2 * s = 16384) {t : Shape} (asc : IVec t 1) (ht : t.Broadcasts (Half g s)) (key : Keys) : Keys :=
  let v : IVec (Halves g s) 32 := shapeCast (Halves g s) key (castKH h)
  let a : IVec (Half g s) 32 := shapeCast (Half g s) (extractStridedSlice (Half1 g s) ![0, 0, 0, 0] v (sliceLow g s)) (castH1 g s)
  let b : IVec (Half g s) 32 := shapeCast (Half g s) (extractStridedSlice (Half1 g s) ![0, 1, 0, 0] v (sliceHigh g s)) (castH1 g s)
  let up : IVec (Half g s) 1 := broadcastTo (Half g s) (shapeCast t asc rfl) ht
  shapeCast K (shapeCast K (concatenate (Halves g s) 1
    [⟨Half1 g s, shapeCast (Half1 g s) (select up (minsi a b) (maxsi a b)) (cast1H g s)⟩,
     ⟨Half1 g s, shapeCast (Half1 g s) (select up (maxsi a b) (minsi a b)) (cast1H g s)⟩] (concHalves g s)) (castHK h)) rfl

theorem bGroup (g s : Nat) : (⟨3, ![g, 1, 1]⟩ : Shape).Broadcasts (Half g s) :=
  ⟨Nat.le_refl 3, fun x => by fin_cases x <;> first | exact .inl rfl | exact .inr fun _ => rfl⟩
theorem bLane3 (g s : Nat) : (⟨3, ![1, 1, 128]⟩ : Shape).Broadcasts (Half g s) :=
  ⟨Nat.le_refl 3, fun x => by fin_cases x <;> first | exact .inl rfl | exact .inr fun _ => rfl⟩
theorem bOne3 (g s : Nat) : (⟨3, ![1, 1, 1]⟩ : Shape).Broadcasts (Half g s) :=
  ⟨Nat.le_refl 3, fun x => by fin_cases x <;> exact .inl rfl⟩
theorem iotaGroup (g : Nat) : (⟨3, ![g, 1, 1]⟩ : Shape).Iotas .tc 32 [0] :=
  ⟨by simp, fun _ => ⟨.inr rfl, by simp⟩, fun h => absurd rfl h⟩

theorem groups {j : Nat} (h : j ≤ 13) : 2 ^ (13 - j) * 2 * 2 ^ j = 16384 := by
  rw [mul_right_comm, ← pow_add, Nat.sub_add_cancel h]; rfl

/-- A pass over rows at a distance of eight or more. -/
def halfPass (k j : Nat) (key : Keys) : Keys :=
  if h : j ≤ 13 then
    bif Nat.blt k 11 then
      halves (2 ^ (13 - j)) (2 ^ j) (groups h) (cmpi .eq (bit (iota .tc ⟨3, ![2 ^ (13 - j), 1, 1]⟩ 32 [0] (iotaGroup _)) (k - j - 1))
        (broadcast ⟨3, ![2 ^ (13 - j), 1, 1]⟩ 0#32)) (bGroup _ _) key
    else bif Nat.blt k 18 then
      halves (2 ^ (13 - j)) (2 ^ j) (groups h) (cmpi .eq (bit (iota .tc ⟨3, ![1, 1, 128]⟩ 32 [2] (by decide)) (k - 11))
        (broadcast ⟨3, ![1, 1, 128]⟩ 0#32)) (bLane3 _ _) key
    else halves (2 ^ (13 - j)) (2 ^ j) (groups h) (broadcast ⟨3, ![1, 1, 1]⟩ 1#1) (bOne3 _ _) key
  else key

theorem sliceLanes (o n : Nat) (h : o + n ≤ 128) : K.Slices ![0, o] ⟨2, ![16384, n]⟩ :=
  ⟨rfl, fun a => by fin_cases a <;> simp [h]⟩
theorem concLanes (m n : Nat) (h : m + n = 128) : Shape.Concatenates [⟨2, ![16384, m]⟩, ⟨2, ![16384, n]⟩] K 1 := by
  refine ⟨Nat.le_refl 2, ?_, by simpa using h⟩
  intro s hs
  simp only [List.mem_cons, List.mem_nil_iff, or_false] at hs
  rcases hs with rfl | rfl <;> exact ⟨rfl, fun b hb => by fin_cases b <;> first | rfl | exact absurd rfl hb⟩

/-- The lanes rotated so that lane `n` comes first. -/
def turn (n m : Nat) (h : m + n = 128) (key : Keys) : Keys :=
  concatenate K 1
    [⟨⟨2, ![16384, m]⟩, extractStridedSlice ⟨2, ![16384, m]⟩ ![0, n] key (sliceLanes n m (by omega))⟩,
     ⟨⟨2, ![16384, n]⟩, extractStridedSlice ⟨2, ![16384, n]⟩ ![0, 0] key (sliceLanes 0 n (by omega))⟩] (concLanes m n h)

/-- The partners' keys of a pass over lanes at distance `s`. -/
def lanePartner (i s : Nat) (h : s ≤ 128) (key : Keys) : Keys :=
  select (broadcastTo K (shapeCast KLane (cmpi .eq (bit lanes i) (broadcast KLane 1#32)) rfl) bLane)
    (turn (128 - s) s (by omega) key) (turn s (128 - s) (by omega) key)

/-- A pass over lanes. -/
def lanePass (k j : Nat) (key : Keys) : Keys :=
  if h : 2 ^ (j - 11) ≤ 128 then
    bif Nat.blt k 18 then
      exchLane (bit lanes (j - 11)) (bit lanes (k - 11)) (lanePartner (j - 11) (2 ^ (j - 11)) h key) key
    else
      exchLane (bit lanes (j - 11)) (broadcastTo KLane (broadcast ⟨2, ![1, 1]⟩ 0#32) bOneLane)
        (lanePartner (j - 11) (2 ^ (j - 11)) h key) key
  else key

/-- The pass with numbers `k` and `j`. -/
def pass (k j : Nat) (key : Keys) : Keys :=
  bif Nat.blt j 3 then smallPass k j key
  else bif Nat.blt j 11 then halfPass k j key
  else lanePass k j key

/-- The 171 passes in order: for each `k` from 1 to 18, each `j` from `k - 1` down to 0. -/
def passes : List (Nat × Nat) :=
  (List.range 18).flatMap fun l => (List.range (l + 1)).reverse.map fun j => (l + 1, j)

/-- The scratch array after the last pass. -/
def sorted (x : IVec X 32) : Keys := passes.foldl (fun key kj => pass kj.1 kj.2 key) (fill x)

/-! ## The loss of the sorted keys -/

section
variable {F : FTy → Type} [FloatOps F]

/-- One word per lane of a sample. -/
abbrev DLane : Shape := ⟨3, ![8, 1, 128]⟩
/-- One word per sample. -/
abbrev DOne : Shape := ⟨3, ![8, 1, 1]⟩
/-- One word per position of a sample. -/
abbrev DPos : Shape := ⟨3, ![1, 2048, 128]⟩

theorem sliceRows (s t : Nat) (h : s + t = 2048) : D.Slices ![0, 0, 0] ⟨3, ![8, t, 128]⟩ :=
  ⟨rfl, fun a => by fin_cases a <;> simp <;> omega⟩
theorem concRows (s t : Nat) (h : s + t = 2048) : Shape.Concatenates [⟨3, ![8, s, 128]⟩, ⟨3, ![8, t, 128]⟩] D 1 := by
  refine ⟨Nat.le_refl 2, ?_, by simpa using h⟩
  intro s hs
  simp only [List.mem_cons, List.mem_nil_iff, or_false] at hs
  rcases hs with rfl | rfl <;> exact ⟨rfl, fun b hb => by fin_cases b <;> first | rfl | exact absurd rfl hb⟩

/-- One step of the running sum along the rows: each row adds the row `s` before it. -/
def rowStep (s t : Nat) (h : s + t = 2048) (x : FVec F D .f32) : FVec F D .f32 :=
  addf x (concatenate D 1 [⟨⟨3, ![8, s, 128]⟩, broadcast ⟨3, ![8, s, 128]⟩ (FloatOps.ofBits .f32 0x00000000#32)⟩,
    ⟨⟨3, ![8, t, 128]⟩, extractStridedSlice ⟨3, ![8, t, 128]⟩ ![0, 0, 0] x (sliceRows s t h)⟩] (concRows s t h))

theorem sliceLane3 (s t : Nat) (h : s + t = 128) : DLane.Slices ![0, 0, 0] ⟨3, ![8, 1, t]⟩ :=
  ⟨rfl, fun a => by fin_cases a <;> simp <;> omega⟩
theorem concLane3 (s t : Nat) (h : s + t = 128) : Shape.Concatenates [⟨3, ![8, 1, s]⟩, ⟨3, ![8, 1, t]⟩] DLane 2 := by
  refine ⟨Nat.le_refl 2, ?_, by simpa using h⟩
  intro s hs
  simp only [List.mem_cons, List.mem_nil_iff, or_false] at hs
  rcases hs with rfl | rfl <;> exact ⟨rfl, fun b hb => by fin_cases b <;> first | rfl | exact absurd rfl hb⟩

/-- One step of the running sum along the lanes. -/
def laneStep (s t : Nat) (h : s + t = 128) (x : FVec F DLane .f32) : FVec F DLane .f32 :=
  addf x (concatenate DLane 2 [⟨⟨3, ![8, 1, s]⟩, broadcast ⟨3, ![8, 1, s]⟩ (FloatOps.ofBits .f32 0x00000000#32)⟩,
    ⟨⟨3, ![8, 1, t]⟩, extractStridedSlice ⟨3, ![8, 1, t]⟩ ![0, 0, 0] x (sliceLane3 s t h)⟩] (concLane3 s t h))

/-- The running sum along the rows of each lane. -/
def rowSums (x : FVec F D .f32) : FVec F D .f32 :=
  rowStep 1024 1024 rfl (rowStep 512 1536 rfl (rowStep 256 1792 rfl (rowStep 128 1920 rfl (rowStep 64 1984 rfl
    (rowStep 32 2016 rfl (rowStep 16 2032 rfl (rowStep 8 2040 rfl (rowStep 4 2044 rfl (rowStep 2 2046 rfl
      (rowStep 1 2047 rfl x))))))))))

/-- The running sum along the lanes. -/
def laneSums (x : FVec F DLane .f32) : FVec F DLane .f32 :=
  laneStep 64 64 rfl (laneStep 32 96 rfl (laneStep 16 112 rfl (laneStep 8 120 rfl (laneStep 4 124 rfl (laneStep 2 126 rfl
    (laneStep 1 127 rfl x))))))

/-- The labels: the lowest bit of each key. -/
def labs (kp : IVec D 32) : FVec F D .f32 := sitofp .f32 (andi kp (broadcast D 1#32))

/-- The errors: the key read back as a number and negated. -/
def errs (kp : IVec D 32) : FVec F D .f32 :=
  subf (broadcast D (FloatOps.ofBits .f32 0x00000000#32))
    (bitcastToFloat .f32 (select (cmpi .sge kp (broadcast D 0#32)) kp (xori kp (broadcast D 2147483647#32))))

/-- Each lane's total. -/
def lastRow (cs : FVec F D .f32) : FVec F DLane .f32 := extractStridedSlice DLane ![0, 2047, 0] cs (by decide)

/-- The labels counted over the positions up to each one. -/
def counts (cs : FVec F D .f32) (inc : FVec F DLane .f32) : FVec F D .f32 :=
  addf cs (broadcastTo D (subf inc (lastRow cs)) (by decide))

/-- The labels counted over all the positions. -/
def total (inc : FVec F DLane .f32) : FVec F D .f32 :=
  broadcastTo D (extractStridedSlice DOne ![0, 0, 127] inc (by decide)) (by decide)

/-- The number of positions up to each one. -/
def places : FVec F DPos .f32 :=
  addf (sitofp .f32 (addi (iota .tc DPos 32 [1] (by decide)) (muli (broadcast DPos 2048#32) (iota .tc DPos 32 [2] (by decide)))))
    (broadcast DPos (FloatOps.ofBits .f32 0x3F800000#32))

/-- The Jaccard loss of each prefix, from the counts and the totals. -/
def jacc (cnt tot : FVec F D .f32) : FVec F D .f32 :=
  subf (broadcast D (FloatOps.ofBits .f32 0x3F800000#32))
    (divf (subf tot cnt)
      (addf (subf (addf tot (broadcastTo D places (by decide))) cnt) (broadcast D (FloatOps.ofBits .f32 0x33D6BF95#32))))

theorem concCarry : Shape.Concatenates [DOne, ⟨3, ![8, 1, 127]⟩] DLane 2 := by decide
theorem concBefore : Shape.Concatenates [DLane, ⟨3, ![8, 2047, 128]⟩] D 1 := by decide

/-- The value at the position before each one, zero before the first. -/
def before (jac : FVec F D .f32) : FVec F D .f32 :=
  concatenate D 1 [⟨DLane, concatenate DLane 2
      [⟨DOne, broadcast DOne (FloatOps.ofBits .f32 0x00000000#32)⟩,
       ⟨⟨3, ![8, 1, 127]⟩, extractStridedSlice ⟨3, ![8, 1, 127]⟩ ![0, 2047, 0] jac (by decide)⟩] concCarry⟩,
    ⟨⟨3, ![8, 2047, 128]⟩, extractStridedSlice ⟨3, ![8, 2047, 128]⟩ ![0, 0, 0] jac (by decide)⟩] concBefore

/-- Each position's share of the loss. -/
def terms (kp : IVec D 32) (jac : FVec F D .f32) : FVec F D .f32 :=
  mulf (maximumf (errs kp) (broadcast D (FloatOps.ofBits .f32 0x00000000#32))) (subf jac (before jac))

/-- The sum over a block. -/
def addAll (x : FVec F D .f32) : F .f32 :=
  extractAt ![0, 0, 0, 0] (shapeCast ⟨4, ![1, 1, 1, 1]⟩
    (multiReduction .add [1, 2, 3] ⟨1, ![1]⟩ (shapeCast ⟨4, ![1, 8, 2048, 128]⟩ x (by decide)) 0x00000000#32 (by decide) (.inl rfl) rfl)
    (by decide)) (by decide)

/-- The loss of eight samples from their sorted keys. -/
def loss (key : Keys) : F .f32 :=
  let kp : IVec D 32 := shapeCast D key (by decide)
  let cs : FVec F D .f32 := rowSums (labs kp)
  let inc : FVec F DLane .f32 := laneSums (lastRow cs)
  addAll (terms kp (jacc (counts cs inc) (total inc)))

/-- What a step of the grid adds to the output. -/
def addLoss (o : FVec F KLane .f32) (l : F .f32) : FVec F KLane .f32 :=
  addf (shapeCast KLane o rfl) (broadcast KLane (Scalar.divf l (FloatOps.ofBits .f32 0x41800000#32)))

end

end Lovasz

end
-- ==== Proof.Extract.lean ====
module

public import proofs.«01_k».proof.Proof.Gen.KernelIdeal.Value
public import proofs.«01_k».proof.Proof.Passes
public import Idealize.ShloMosaic.Lib.Tactic
import all proofs.«01_k».proof.Proof.Gen.KernelIdeal.Frame.RunA
import all proofs.«01_k».proof.Proof.Gen.KernelIdeal.Frame.RunB

@[expose] public section

/-!
# The run of the kernel's body as the passes of the network
-/

set_option maxRecDepth 100000

noncomputable section

namespace Lovasz

open Idealize.ShloMosaic Cert.KernelIdeal Cert.KernelIdeal.Gen

variable {F : FTy → Type} [FloatOps F]

/-- The whole scratch array. -/
abbrev whole : Rect S16384x128 := Rect.unit ![0, 0] S16384x128.size inb_S16384x128_S16384x128_0_0

/-- The stores to the scratch array after the passes of a list, the latest first: each stores the pass of what the stores
    before it left. -/
def pieces (a : Memref sig .tc .vmem S16384x128 .i32) (x : IVec X 32) (ps : List (Nat × Nat)) :
    List (View.Piece (Elt F) S16384x128 .i32) :=
  ps.foldl (fun L kj => ⟨whole, pass kj.1 kj.2 (a.view.readCov L whole.toLoadRect)⟩ :: L) [⟨whole, fill x⟩]

/-- The whole block of keys. -/
abbrev wholeX : Rect S8x384x384 := Rect.unit ![0, 0, 0] S8x384x384.size inb_S8x384x384_S8x384x384_0_0_0
/-- The whole output block. -/
abbrev wholeO : Rect S1x128 := Rect.unit ![0, 0] ![1, 128] inb_S1x128_S1x128_0_0

section
variable (c : Dev nD) (i : grid0.Coords) (arg1 : Memref sig .tc .vmem S8x384x384 .i32) (harg1 : arg1.IsWhole)
  (arg2 : Memref sig .tc .vmem S1x128 .f32) (harg2 : arg2.IsWhole) (arg3 : Memref sig .tc .vmem S16384x128 .i32)
  (harg3 : arg3.IsWhole)

/-- On the first step, what is stored last to the output: the loss of the keys the passes leave, added to zero. -/
theorem stored_A (hc0 : cond0_0 i) (x0 : Vec F S8x384x384 .i32) :
    (kernelRun0_A c i arg1 harg1 arg2 harg2 arg3 harg3 hc0 x0).1 =
      [⟨wholeO, addLoss
          (arg2.view.readCov (Val := Elt F) [⟨Rect.unit ![0, 0] S1x128.size inb_S1x128_S1x128_0_0,
            (broadcast S1x128 (FloatOps.ofBits .f32 0x00000000#32) : FVec F S1x128 .f32)⟩] wholeO.toLoadRect)
          (loss (F := F) (arg3.view.readCov
            (pieces (F := F) arg3 (arg1.view.readAt (Elt F) wholeX.toLoadRect (harg1.unread x0)) passes) whole.toLoadRect))⟩,
       ⟨Rect.unit ![0, 0] S1x128.size inb_S1x128_S1x128_0_0,
          (broadcast S1x128 (FloatOps.ofBits .f32 0x00000000#32) : FVec F S1x128 .f32)⟩] := by
  sl_kernel_rfl

/-- On a later step, what is stored to the output: the loss of the keys the passes leave, added to what was there. -/
theorem stored_B (hc0 : ¬cond0_0 i) (x0 : Vec F S8x384x384 .i32) (xo1 : Vec F S1x128 .f32) :
    (kernelRun0_B c i arg1 harg1 arg2 harg2 arg3 harg3 hc0 x0 xo1).1 =
      [⟨wholeO, addLoss (arg2.view.readAt (Elt F) wholeO.toLoadRect (harg2.unread xo1))
          (loss (F := F) (arg3.view.readCov
            (pieces (F := F) arg3 (arg1.view.readAt (Elt F) wholeX.toLoadRect (harg1.unread x0)) passes) whole.toLoadRect))⟩] := by
  sl_kernel_rfl

end

theorem zeros2 : (![0, 0] : Fin 2 → Nat) = fun _ => 0 := funext fun a => by fin_cases a <;> rfl
theorem zeros3 : (![0, 0, 0] : Fin 3 → Nat) = fun _ => 0 := funext fun a => by fin_cases a <;> rfl

theorem whole_covers (w : Vec F S16384x128 .i32) (L : List (View.Piece (Elt F) S16384x128 .i32)) (y : S16384x128.Idx) :
    ∃ p ∈ (⟨whole, w⟩ :: L : List (View.Piece (Elt F) S16384x128 .i32)), y ∈ p.1.set :=
  ⟨_, List.mem_cons_self, View.mem_set_unit_zero (S := S16384x128) zeros2 inb_S16384x128_S16384x128_0_0 y⟩

/-- What is read from the scratch array after the passes of a list is the passes' result. -/
theorem read_pieces (a : Memref sig .tc .vmem S16384x128 .i32) (x : IVec X 32) (ps : List (Nat × Nat)) :
    a.view.readCov (pieces (F := F) a x ps) whole.toLoadRect = ps.foldl (fun key kj => pass kj.1 kj.2 key) (fill x) := by
  have hd (w : Vec F S16384x128 .i32) (L) : a.view.readCov (⟨whole, w⟩ :: L) whole.toLoadRect = w := by
    rw [View.readCov_eq_canon_ld _ _ _ (whole_covers w L), View.canon_cons_unit_zero zeros2, View.ld_unit_zero zeros2]
  suffices h : ∀ (ps : List (Nat × Nat)) (w : Keys) (L : List (View.Piece (Elt F) S16384x128 .i32)),
      a.view.readCov (ps.foldl (fun L kj => ⟨whole, pass kj.1 kj.2 (a.view.readCov L whole.toLoadRect)⟩ :: L) (⟨whole, w⟩ :: L))
        whole.toLoadRect = ps.foldl (fun key kj => pass kj.1 kj.2 key) w from h ps _ _
  intro ps
  induction ps with
  | nil => intro w L; exact hd w L
  | cons p ps ih => intro w L; simp only [List.foldl_cons]; rw [ih, hd]

/-- The keys the passes leave, from the staged block. -/
theorem read_sorted (arg1 : Memref sig .tc .vmem S8x384x384 .i32) (harg1 : arg1.IsWhole)
    (arg3 : Memref sig .tc .vmem S16384x128 .i32) (x0 : Vec F S8x384x384 .i32) :
    arg3.view.readCov (pieces (F := F) arg3 (arg1.view.readAt (Elt F) wholeX.toLoadRect (harg1.unread x0)) passes)
      whole.toLoadRect = sorted x0 := by
  rw [read_pieces, View.readAt_eq_ld, harg1.read_unread, View.ld_unit_zero zeros3]; rfl

/-- What is read from the output after one store to all of it is what was stored. -/
theorem read_one (a : Memref sig .tc .vmem S1x128 .f32) (w : Vec F S1x128 .f32) :
    a.view.readCov (Val := Elt F) [⟨Rect.unit ![0, 0] S1x128.size inb_S1x128_S1x128_0_0, w⟩] wholeO.toLoadRect = w := by
  have h : ∀ y : S1x128.Idx, ∃ p ∈ ([⟨Rect.unit ![0, 0] S1x128.size inb_S1x128_S1x128_0_0, w⟩] : List (View.Piece (Elt F) S1x128 .f32)),
      y ∈ p.1.set :=
    fun y => ⟨_, List.mem_cons_self, View.mem_set_unit_zero (S := S1x128) zeros2 inb_S1x128_S1x128_0_0 y⟩
  rw [View.readCov_eq_canon_ld _ _ _ h, View.canon_cons_unit_zero (S := S1x128) zeros2]
  exact View.ld_unit_zero (S := S1x128) zeros2 _ _

/-- The first step leaves the loss of its eight samples in the output. -/
theorem out_A (c : Dev nD) (i : grid0.Coords) (arg1 : Memref sig .tc .vmem S8x384x384 .i32) (harg1 : arg1.IsWhole)
    (arg2 : Memref sig .tc .vmem S1x128 .f32) (harg2 : arg2.IsWhole) (arg3 : Memref sig .tc .vmem S16384x128 .i32)
    (harg3 : arg3.IsWhole) (hc0 : cond0_0 i) (x0 : Vec F S8x384x384 .i32) :
    out0_A_1 c i arg1 harg1 arg2 harg2 arg3 harg3 hc0 x0 =
      addLoss (broadcast S1x128 (FloatOps.ofBits .f32 0x00000000#32)) (loss (F := F) (sorted x0)) := by
  unfold out0_A_1
  rw [View.read_writes_eq_canon _ _ _ (cover0_A_1 c i arg1 harg1 arg2 harg2 arg3 harg3 hc0 x0), stored_A, read_sorted]
  rw [read_one]
  exact View.canon_cons_unit_zero (S := S1x128) zeros2 _ _ _

/-- A later step adds the loss of its eight samples to the output. -/
theorem out_B (c : Dev nD) (i : grid0.Coords) (arg1 : Memref sig .tc .vmem S8x384x384 .i32) (harg1 : arg1.IsWhole)
    (arg2 : Memref sig .tc .vmem S1x128 .f32) (harg2 : arg2.IsWhole) (arg3 : Memref sig .tc .vmem S16384x128 .i32)
    (harg3 : arg3.IsWhole) (hc0 : ¬cond0_0 i) (x0 : Vec F S8x384x384 .i32) (xo1 : Vec F S1x128 .f32) :
    out0_B_1 c i arg1 harg1 arg2 harg2 arg3 harg3 hc0 x0 xo1 = addLoss xo1 (loss (F := F) (sorted x0)) := by
  unfold out0_B_1
  rw [View.read_writes_eq_canon _ _ _ (cover0_B_1 c i arg1 harg1 arg2 harg2 arg3 harg3 hc0 x0 xo1), stored_B, read_sorted]
  rw [View.readAt_eq_ld, harg2.read_unread, View.ld_unit_zero zeros2]
  exact View.canon_cons_unit_zero (S := S1x128) zeros2 _ _ _

/-! ## The two steps of the grid -/

open Idealize.ShloMosaic.TcCoe Idealize.SL.Sem
open Idealize.ShloMosaic.Pipeline (Dat)

variable (m : (ℓ : Loc nD τ sig) → Buf (Elt F) ℓ) (ρ : Dev nD → PrngReg)

/-- What the output holds after the second step. -/
abbrev result (c : Dev nD) : Buf (Elt F) ((c : Thread nD τ).loc main_v0) :=
  addLoss (addLoss (broadcast S1x128 (FloatOps.ofBits .f32 0x00000000#32)) (loss (F := F) (sorted (iblk m c 0 t0_0))))
    (loss (F := F) (sorted (iblk m c 0 t0_1)))

theorem outs_last (c : Dev nD) : outsAt0 m c t0_1.val t0_1.isLt = result m c := by
  rw [outsAt0_B m c t0_1 (by decide), out_B]
  have h : outsAt0 m c (t0_1.val - 1) (Nat.lt_of_le_of_lt (Nat.sub_le _ _) t0_1.isLt) = outsAt0 m c t0_0.val t0_0.isLt := rfl
  rw [h, outsAt0_A m c t0_0 (by decide), out_A]

theorem flushed_eq (c : Dev nD) (t : Fin cfg0.N) (hf : (cfg0.win 1).flush t = true) :
    (dats m 0 c).flushed 1 t = ((cfg0.win 1).blk t).view.read (Elt F) (result m c) := by
  have hN : cfg0.N = 2 := N_0
  have h3 : t.val = 1 := by have := (flush0_1 t).mp hf; have := t.isLt; omega
  obtain rfl : t = t0_1 := Fin.ext h3
  show (cfg0.win 1).cut (grid0.coords t0_1) ((dats m 0 c).after 1 t0_1) = _
  rw [after0_1, outs_last]
  have hz' : (fun a => win0_1.index t0_1 a * main_v0.ty.shape.size a) = fun _ => 0 := funext fun a => by fin_cases a <;> decide
  exact (Memref.read_access_unit_zero (Elt F) main_v0 hz' (fun a => by rw [congrFun hz' a]; simp) (result m c)).symm

/-- The result array ends holding what the output held after the second step. -/
theorem final_o (c : Dev nD) : (dats m 0 c).arrAt 1 cfg0.N = result m c :=
  (dats m 0 c).arrAt_eq_of_cover 1 (result m c) (flushed_eq m c) fun i =>
    ⟨t0_1, (flush0_1 t0_1).mpr rfl, by
      show i ∈ ((View.whole main_v0).slice (win0_1.rect t0_1)).set
      rw [View.set_slice_whole, Rect.mem_set_unit]
      intro a
      have h0 : (i 0 : Nat) < 1 := (i 0).isLt
      have h1 : (i 1 : Nat) < 128 := (i 1).isLt
      match a with
      | ⟨0, _⟩ => show win0_1.index t0_1 0 * win0_1.size 0 ≤ (i 0 : Nat) ∧ (i 0 : Nat) < win0_1.index t0_1 0 * win0_1.size 0 + win0_1.xsize (grid0.coords t0_1) 0
                  rw [show win0_1.index t0_1 0 * win0_1.size 0 = 0 from by decide +kernel, show win0_1.xsize (grid0.coords t0_1) 0 = 1 from by decide +kernel]; omega
      | ⟨1, _⟩ => show win0_1.index t0_1 1 * win0_1.size 1 ≤ (i 1 : Nat) ∧ (i 1 : Nat) < win0_1.index t0_1 1 * win0_1.size 1 + win0_1.xsize (grid0.coords t0_1) 1
                  rw [show win0_1.index t0_1 1 * win0_1.size 1 = 0 from by decide +kernel, show win0_1.xsize (grid0.coords t0_1) 1 = 128 from by decide +kernel]; omega⟩

/-- The eight samples the step `t` stages. -/
def block (x : IVec S16x384x384 32) (t : Nat) (h : t < 2) : IVec X 32 :=
  fun j => x fun | ⟨0, _⟩ => ⟨8 * t + (j 0).val, by have : (j 0).val < 8 := (j 0).isLt; show _ < 16; omega⟩
                 | ⟨1, _⟩ => j 1
                 | ⟨2, _⟩ => j 2

theorem iblk_eq (c : Dev nD) (t : Fin cfg0.N) (h : t.val < 2) :
    (iblk m c 0 t : Vec F S8x384x384 .i32) = block (m ((c : Thread nD τ).loc main_arg0)) t.val h := by
  have hi : win0_0.index t 0 = t.val ∧ win0_0.index t 1 = 0 ∧ win0_0.index t 2 = 0 := by
    rcases fin_N0 t with rfl | rfl <;> decide
  funext j
  unfold iblk block
  rw [View.read_apply]
  show V m c main_arg0 _ = m (c.tc.loc main_arg0) _
  unfold V
  congr 1
  funext a
  apply Fin.ext
  match a with
  | ⟨0, _⟩ => show win0_0.index t 0 * 8 + 1 * (j 0).val = 8 * t.val + (j 0).val; rw [hi.1]; omega
  | ⟨1, _⟩ => show win0_0.index t 1 * 384 + 1 * (j 1).val = (j 1).val; rw [hi.2.1]; omega
  | ⟨2, _⟩ => show win0_0.index t 2 * 384 + 1 * (j 2).val = (j 2).val; rw [hi.2.2]; omega

/-- The kernel's result from its packed keys: the losses of the two blocks, each divided by sixteen, added. -/
def kernelOut (x : IVec S16x384x384 32) : FVec F S1x128 .f32 :=
  addLoss (addLoss (broadcast S1x128 (FloatOps.ofBits .f32 0x00000000#32)) (loss (F := F) (sorted (block x 0 (by decide)))))
    (loss (F := F) (sorted (block x 1 (by decide))))

/-- The kernel's run: the result array ends holding `kernelOut` of the argument, the argument unchanged. -/
theorem kernel_run : θ_run defs (onTc (τ := τ) (main (F := F))) ⟨m, fun _ => 0, ρ⟩ fun r => ∀ c : Dev nD,
      r.2.mem ((c : Thread nD τ).loc main_v0) = (kernelOut (F := F) (m ((c : Thread nD τ).loc main_arg0)) : FVec F S1x128 .f32)
      ∧ r.2.mem ((c : Thread nD τ).loc main_arg0) = m ((c : Thread nD τ).loc main_arg0) :=
  (θ_run defs _ _).mono (fun r h c => ⟨((h c).1).trans ((final_o m c).trans (by
      unfold result kernelOut
      rw [iblk_eq m c t0_0 (by decide), iblk_eq m c t0_1 (by decide)]; rfl)), (h c).2⟩)
    (Value.run_blocks m ρ)

end Lovasz

end
end
-- ==== Proof.Reference.lean ====
module

public import proofs.«01_k».proof.Proof.Gen.ReferenceIdeal.Run

@[expose] public section

/-!
# The reference in named steps
-/

noncomputable section

namespace Lovasz

open Idealize.ShloMosaic Cert.ReferenceIdeal Cert.ReferenceIdeal.Gen

variable {F : FTy → Type} [FloatOps F]

/-- One value of every entry of a row for each sample. -/
abbrev all (v : FVec F S_ .f32) : FVec F S16x147456 .f32 := broadcastInDim S16x147456 ![] bcast_S_S16x147456 v

/-- The errors of each sample, one row each. -/
def margins (x : IVec S16x384x384 32) : FVec F S16x147456 .f32 :=
  shapeCast _ (Host.negf (bitcastToFloat (F := F) .f32
    (select (cmpi .sge x (broadcastInDim S16x384x384 ![] bcast_S_S16x384x384 (constantI S_ 32 0#32))) x
      (xori x (broadcastInDim S16x384x384 ![] bcast_S_S16x384x384 (constantI S_ 32 2147483647#32))))))
    shapeCasts_S16x384x384_S16x147456

/-- The labels of each sample, one row each. -/
def marks (x : IVec S16x384x384 32) : IVec S16x147456 32 :=
  shapeCast _ (andi x (broadcastInDim S16x384x384 ![] bcast_S_S16x384x384 (constantI S_ 32 1#32))) shapeCasts_S16x384x384_S16x147456

/-- The order of each row by descending error. -/
def order (e : FVec F S16x147456 .f32) : IVec S16x147456 32 :=
  (Host.sort2 S16x147456 1 comparator_f32_i32_d1 (Host.negf e)
    (broadcastInDim S16x147456 ![1] bcast_S147456_S16x147456_1 (iotaInDim S147456 32 0))).2

/-- An order as the starts of a gather, an entry below zero counted from the end. -/
def starts (p : IVec S16x147456 32) : IVec S16x147456x1 32 :=
  broadcastInDim S16x147456x1 ![0, 1] bcast_S16x147456_S16x147456x1_0_1
    (select (cmpi .slt p (broadcastInDim S16x147456 ![] bcast_S_S16x147456 (constantI S_ 32 0#32)))
      (addi p (broadcastInDim S16x147456 ![] bcast_S_S16x147456 (constantI S_ 32 147456#32))) p)

/-- The rows read in an order. -/
def inOrder {α : Type} (x : S16x147456.Idx → α) (p : IVec S16x147456 32) : S16x147456.Idx → α :=
  Host.gather gather_S16x147456_S16x147456x1_S16x147456_n_1_0_0_1_2_11 x (starts p)

/-- The running sum of each row. -/
def running (y : FVec F S16x147456 .f32) : FVec F S16x147456 .f32 :=
  Host.reduceWindowAdd ![1, 147456] ![1, 1] ![0, 147455] ![0, 0] y (broadcastInDim S_ ![] bcast_S_S_ (constant S_ .f32 0x00000000#32))
    reduceWindows_S16x147456_S16x147456_w1s1p0_0_w147456s1p147455_0 h_S_

/-- The sum of each row, at every entry of it. -/
def totals (y : FVec F S16x147456 .f32) : FVec F S16x147456 .f32 :=
  broadcastInDim S16x147456 ![0, 1] bcast_S16x1_S16x147456_0_1 (broadcastInDim S16x1 ![0] bcast_S16_S16x1_0
    (Host.reduceAdd y (constant S_ .f32 0x00000000#32) reducesTo_S16x147456_S16_d1 h_S_))

/-- The Jaccard loss of each prefix of a row of labels. -/
def jaccard (y : FVec F S16x147456 .f32) : FVec F S16x147456 .f32 :=
  subf (all (constant S_ .f32 0x3F800000#32))
    (Host.divf (subf (totals y) (running y))
      (addf (addf (totals y) (running (subf (all (constant S_ .f32 0x3F800000#32)) y))) (all (constant S_ .f32 0x33D6BF95#32))))

/-- The growth of each row. -/
def growths (v : FVec F S16x147456 .f32) : FVec F S16x147456 .f32 :=
  Cert.ReferenceIdeal.Value.fn_main_v48 (F := F) (extractStridedSlice S16x1 ![0, 0] v slices_S16x147456_S16x1_0_0)
    (subf (extractStridedSlice S16x147455 ![0, 1] v slices_S16x147456_S16x147455_0_1)
      (extractStridedSlice S16x147455 ![0, 0] v slices_S16x147456_S16x147455_0_0))

/-- The loss of each sample. -/
def rowLosses (e y : FVec F S16x147456 .f32) : FVec F S16 .f32 :=
  Host.dotGeneral dot_S16x147456_S16x147456_S16_1_1_n_n_0_0 none (maximumf e (all (constant S_ .f32 0x00000000#32)))
    (growths (jaccard y))

/-- The mean loss, at every entry of the output. -/
def meanLoss (w : FVec F S16 .f32) : FVec F S1x128 .f32 :=
  broadcastInDim S1x128 ![] bcast_S_S1x128
    (Host.divf (Host.reduceAdd w (constant S_ .f32 0x00000000#32) reducesTo_S16_S_d0 h_S_) (constant S_ .f32 0x41800000#32))

/-- The reference's result as a function of the keys. -/
def refOut (x : IVec S16x384x384 32) : FVec F S1x128 .f32 :=
  meanLoss (rowLosses (inOrder (margins x) (order (margins (F := F) x)))
    (sitofp .f32 (inOrder (marks x) (order (margins (F := F) x)))))

/-- The reference's run leaves `refOut` of its keys. -/
theorem result_eq (m : (ℓ : Loc nD τ sig) → Buf (Elt F) ℓ) (c : Dev nD) :
    Cert.ReferenceIdeal.Value.res_main_v53 m c = refOut (m ((c.tc : Thread nD τ).loc main_arg0)) := by
  unfold Cert.ReferenceIdeal.Value.res_main_v53
  unfold refOut meanLoss rowLosses growths jaccard totals running inOrder starts order marks margins
  rfl

end Lovasz

end
-- ==== Proof.PassFacts.lean ====
module

public import proofs.«01_k».proof.Proof.Passes
public import Idealize.ShloMosaic.Lib.Pointwise
public import Idealize.ShloMosaic.Lib.Pointwise.IndexVar

@[expose] public section

/-!
# What each pass does to one word
-/

namespace Lovasz

open Idealize.ShloMosaic

/-- A word's bit as a word. -/
theorem bit_apply {s : Shape} (x : IVec s 32) (n : Nat) (i : s.Idx) (hx : (x i).toNat < 2 ^ 31) (hn : n < 32) :
    bit x n i = if (x i).toNat.testBit n then 1#32 else 0#32 := by
  show IntOp.shrsi .vector (x i) (BitVec.ofNat 32 n) &&& 1#32 = _
  have h : (BitVec.ofNat 32 n).toNat = n := by simp; omega
  rw [IntOp.shrsi, h, if_pos hn, BitVec.sshiftRight', h, BitVec.sshiftRight_eq_of_msb_false (BitVec.msb_eq_false_iff_two_mul_lt.2 (by omega))]
  apply BitVec.eq_of_toNat_eq
  rw [BitVec.toNat_and, BitVec.toNat_ushiftRight]
  have := Nat.and_one_is_mod ((x i).toNat >>> n)
  simp only [BitVec.toNat_ofNat]
  norm_num
  rw [Nat.shiftRight_eq_div_pow, Nat.testBit_eq_decide_div_mod_eq]
  split <;> rename_i h <;> simp at h ⊢ <;> omega

theorem rows_apply (R : Fin 16384) (l : Fin 1) : rows (ix2 R l) = BitVec.ofNat 32 R.val := by
  pointwise [rows]

theorem lanes_apply (R : Fin 1) (l : Fin 128) : lanes (ix2 R l) = BitVec.ofNat 32 l.val := by
  pointwise [lanes]

theorem bit_rows (R : Fin 16384) (l : Fin 1) (n : Nat) (hn : n < 32) :
    bit rows n (ix2 R l) = if R.val.testBit n then 1#32 else 0#32 := by
  have h : (rows (ix2 R l)).toNat = R.val := by rw [rows_apply]; simp; omega
  rw [bit_apply _ _ _ (by omega) hn, h]

theorem bit_lanes (R : Fin 1) (l : Fin 128) (n : Nat) (hn : n < 32) :
    bit lanes n (ix2 R l) = if l.val.testBit n then 1#32 else 0#32 := by
  have h : (lanes (ix2 R l)).toNat = l.val := by rw [lanes_apply]; simp; omega
  rw [bit_apply _ _ _ (by omega) hn, h]

/-- The smaller of two words under `up`, the larger otherwise. -/
def pick (up : Bool) (a b : BitVec 32) : BitVec 32 := if up then (if b.slt a then b else a) else (if a.slt b then b else a)

/-- Read as signed numbers, `pick` is the minimum or the maximum. -/
theorem pick_toInt (up : Bool) (a b : BitVec 32) : (pick up a b).toInt = if up then min a.toInt b.toInt else max a.toInt b.toInt := by
  unfold pick
  simp only [BitVec.slt, decide_eq_true_eq]
  cases up <;> simp only [Bool.false_eq_true, if_false, if_true] <;> split <;> omega

theorem pick_comm (up : Bool) (a b : BitVec 32) : pick up a b = pick up b a :=
  BitVec.eq_of_toInt_eq (by rw [pick_toInt, pick_toInt, min_comm, max_comm])

theorem minsi_eq (a b : BitVec 32) : IntOp.minsi a b = pick true a b := by rw [pick_comm]; rfl
theorem maxsi_eq (a b : BitVec 32) : IntOp.maxsi a b = pick false a b := by rw [pick_comm]; rfl

/-- An exchange keeps the smaller of the word and its partner's under a set mask, the larger otherwise. -/
theorem exch_apply (kp nk : IVec K 1) (pk key : Keys) (i : K.Idx) (up : Bool) (hk : kp i = BitVec.ofBool up)
    (hn : nk i = BitVec.ofBool (!up)) : exch kp nk pk key i = pick up (key i) (pk i) := by
  have h : exch kp nk pk key i = Scalar.select ((kp i &&& IntOp.cmpi .slt (pk i) (key i)) ||| (nk i &&& IntOp.cmpi .sgt (pk i) (key i)))
      (pk i) (key i) := by
    show shapeCast K _ _ i = _
    rw [shapeCast_self]; rfl
  rw [h, hk, hn]
  unfold pick IntOp.cmpi Scalar.select
  cases up <;> simp <;> cases BitVec.slt _ _ <;> simp

theorem eq_bits (a b : Bool) : IntOp.cmpi .eq (if a then 1#32 else 0#32) (if b then 1#32 else 0#32) = BitVec.ofBool (a == b) := by
  cases a <;> cases b <;> rfl

theorem not_bit (a : Bool) : BitVec.ofBool a ^^^ 1#1 = BitVec.ofBool (!a) := by cases a <;> rfl

theorem exchRow_apply (bj bk : IVec KRow 32) (pk key : Keys) (R : Fin 16384) (l : Fin 128) (a b : Bool)
    (ha : bj (ix2 R 0) = if a then 1#32 else 0#32) (hb : bk (ix2 R 0) = if b then 1#32 else 0#32) :
    exchRow bj bk pk key (ix2 R l) = pick (a == b) (key (ix2 R l)) (pk (ix2 R l)) := by
  unfold exchRow
  refine exch_apply _ _ _ _ _ _ ?_ ?_
  · pointwise; rw [ha, hb, eq_bits]
  · pointwise; rw [ha, hb, eq_bits, ← not_bit]; rfl

theorem exchLane_apply (bj bk : IVec KLane 32) (pk key : Keys) (R : Fin 16384) (l : Fin 128) (a b : Bool)
    (ha : bj (ix2 0 l) = if a then 1#32 else 0#32) (hb : bk (ix2 0 l) = if b then 1#32 else 0#32) :
    exchLane bj bk pk key (ix2 R l) = pick (a == b) (key (ix2 R l)) (pk (ix2 R l)) := by
  unfold exchLane
  refine exch_apply _ _ _ _ _ _ ?_ ?_
  · pointwise; rw [ha, hb, eq_bits]
  · pointwise; rw [ha, hb, eq_bits, ← not_bit]; rfl

theorem exchBoth_apply (bj : IVec KRow 32) (bk : IVec KLane 32) (pk key : Keys) (R : Fin 16384) (l : Fin 128) (a b : Bool)
    (ha : bj (ix2 R 0) = if a then 1#32 else 0#32) (hb : bk (ix2 0 l) = if b then 1#32 else 0#32) :
    exchBoth bj bk pk key (ix2 R l) = pick (a == b) (key (ix2 R l)) (pk (ix2 R l)) := by
  unfold exchBoth
  refine exch_apply _ _ _ _ _ _ ?_ ?_
  · pointwise; rw [ha, hb, eq_bits]
  · pointwise; rw [ha, hb, eq_bits, ← not_bit]; rfl

theorem xor_mod_two (a b : Nat) : (a ^^^ b) % 2 = (a + b) % 2 := by
  have h := Nat.xor_mod_two_pow (a := a) (b := b) (n := 1)
  rw [pow_one] at h
  rw [h, Nat.add_mod]
  rcases Nat.mod_two_eq_zero_or_one a with ha | ha <;> rcases Nat.mod_two_eq_zero_or_one b with hb | hb <;> rw [ha, hb] <;> rfl

/-- Flipping a bit subtracts its weight where it is set and adds it where it is clear. -/
theorem xor_two_pow (j : Nat) : ∀ n : Nat, n ^^^ 2 ^ j = if n.testBit j then n - 2 ^ j else n + 2 ^ j := by
  induction j with
  | zero =>
    intro n
    have h1 : (n ^^^ 1) / 2 = n / 2 := by rw [Nat.xor_div_two]; simp
    have h2 : (n ^^^ 1) % 2 = (n + 1) % 2 := by rw [xor_mod_two]
    simp only [pow_zero, Nat.testBit_zero]
    split <;> rename_i h <;> simp at h <;> omega
  | succ j ih =>
    intro n
    have h1 : (n ^^^ 2 ^ (j + 1)) / 2 = n / 2 ^^^ 2 ^ j := by
      rw [Nat.xor_div_two, pow_succ, Nat.mul_div_cancel _ (by omega)]
    have h2 : (n ^^^ 2 ^ (j + 1)) % 2 = n % 2 := by rw [xor_mod_two, pow_succ]; omega
    have h3 := ih (n / 2)
    rw [Nat.testBit_succ]
    have h4 : (n / 2).testBit j = true → 2 ^ j ≤ n / 2 := fun h => Nat.ge_two_pow_of_testBit h
    rw [pow_succ] at *
    split at h3 <;> rename_i h
    · have := h4 h; rw [if_pos h]; omega
    · rw [if_neg h]; omega

theorem xor_lt {n j p : Nat} (hn : n < 2 ^ p) (hj : j < p) : n ^^^ 2 ^ j < 2 ^ p :=
  Nat.xor_lt_two_pow hn (Nat.pow_lt_pow_right (by omega) hj)

theorem two_pow_le {n j : Nat} (h : n.testBit j = true) : 2 ^ j ≤ n := Nat.ge_two_pow_of_testBit h

theorem add_two_pow_lt {n j p : Nat} (h : ¬ n.testBit j = true) (hn : n < 2 ^ p) (hj : j < p) : n + 2 ^ j < 2 ^ p := by
  have := xor_lt hn hj
  rwa [xor_two_pow, if_neg h] at this

theorem eq_one_bit (a : Bool) : IntOp.cmpi .eq (if a then 1#32 else 0#32) 1#32 = BitVec.ofBool a := by cases a <;> rfl

theorem select_ofBool {α : Type} (a : Bool) (x y : α) : Scalar.select (BitVec.ofBool a) x y = if a then x else y := by
  cases a <;> rfl

/-- The two rotations read the word whose row number differs in bit `j`. -/
theorem rowPartner_apply (j : Nat) (hj : j < 14) (key : Keys) (R : Fin 16384) (l : Fin 128) :
    rowPartner j key (ix2 R l) = key (ix2 ⟨R.val ^^^ 2 ^ j, xor_lt (p := 14) R.isLt hj⟩ l) := by
  have hp : 2 ^ j < 2 ^ 14 := Nat.pow_lt_pow_right (by omega) hj
  have h0 : 0 < 2 ^ j := Nat.two_pow_pos j
  have hR : R.val < 2 ^ 14 := R.isLt
  unfold rowPartner
  pointwise
  rw [bit_rows _ _ _ (by omega), eq_one_bit, select_ofBool]
  split <;> rename_i h <;> congr 2 <;> apply Fin.ext <;> simp only [BitVec.toNat_ofNat]
  · have := two_pow_le h
    rw [xor_two_pow, if_pos h]
    omega
  · have := add_two_pow_lt h hR hj
    rw [xor_two_pow, if_neg h]
    omega

theorem turn_apply (n m : Nat) (h : m + n = 128) (key : Keys) (R : Fin 16384) (l : Fin 128) :
    turn n m h key (ix2 R l) = key (ix2 R ⟨(l.val + n) % 128, Nat.mod_lt _ (by omega)⟩) := by
  pointwise [turn]
  split <;> congr 2 <;> apply Fin.ext <;> simp only <;> omega

/-- The two turns read the word whose lane number differs in bit `i`. -/
theorem lanePartner_apply (i : Nat) (hi : i < 7) (h : 2 ^ i ≤ 128) (key : Keys) (R : Fin 16384) (l : Fin 128) :
    lanePartner i (2 ^ i) h key (ix2 R l) = key (ix2 R ⟨l.val ^^^ 2 ^ i, xor_lt (p := 7) l.isLt hi⟩) := by
  have h0 : 0 < 2 ^ i := Nat.two_pow_pos i
  have hR : l.val < 2 ^ 7 := l.isLt
  unfold lanePartner
  pointwise
  rw [bit_lanes _ _ _ (by omega), eq_one_bit, select_ofBool, turn_apply, turn_apply]
  split <;> rename_i h <;> congr 2 <;> apply Fin.ext <;> simp only
  · have := two_pow_le h
    rw [xor_two_pow, if_pos h]
    omega
  · have := add_two_pow_lt h hR hi
    rw [xor_two_pow, if_neg h]
    omega

/-! ## The passes over halves -/

theorem rowIndex {g s : Nat} (h : g * 2 * s = 16384) (q : Fin g) (b : Fin 2) (u : Fin s) : (q.val * 2 + b.val) * s + u.val < 16384 := by
  have h1 : q.val * 2 + b.val + 1 ≤ g * 2 := by omega
  have h2 := Nat.mul_le_mul_right s h1
  have := u.isLt
  rw [h, Nat.add_mul, Nat.one_mul] at h2
  omega

theorem castKH_apply {g s : Nat} (h : g * 2 * s = 16384) (key : Keys) (q : Fin g) (b : Fin 2) (u : Fin s) (l : Fin 128) :
    shapeCast (Halves g s) key (castKH h) (ix4 q b u l) = key (ix2 ⟨(q.val * 2 + b.val) * s + u.val, rowIndex h q b u⟩ l) := by
  refine congrArg key (Shape.reshapeEquiv_eq_of_vals _ _ _ _ _ (rowMajor_val2 _ 128 rfl)
    (rowMajor_val4 _ (2 * (s * 128)) (s * 128) 128 rfl rfl rfl) ?_)
  show ((q.val * 2 + b.val) * s + u.val) * 128 + l.val = q.val * (2 * (s * 128)) + b.val * (s * 128) + u.val * 128 + l.val
  ring

theorem castHK_apply {g s : Nat} (h : g * 2 * s = 16384) (v : IVec (Halves g s) 32) (q : Fin g) (b : Fin 2) (u : Fin s) (l : Fin 128) :
    shapeCast K v (castHK h) (ix2 ⟨(q.val * 2 + b.val) * s + u.val, rowIndex h q b u⟩ l) = v (ix4 q b u l) := by
  refine congrArg v (Shape.reshapeEquiv_eq_of_vals _ _ _ _ _
    (rowMajor_val4 _ (2 * (s * 128)) (s * 128) 128 rfl rfl rfl) (rowMajor_val2 _ 128 rfl) ?_)
  show q.val * (2 * (s * 128)) + b.val * (s * 128) + u.val * 128 + l.val = ((q.val * 2 + b.val) * s + u.val) * 128 + l.val
  ring

theorem castH1_apply {g s : Nat} (v : IVec (Half1 g s) 32) (q : Fin g) (u : Fin s) (l : Fin 128) :
    shapeCast (Half g s) v (castH1 g s) (ix3 q u l) = v (ix4 q 0 u l) := by
  refine congrArg v (Shape.reshapeEquiv_eq_of_vals _ _ _ _ _
    (rowMajor_val4 _ (1 * (s * 128)) (s * 128) 128 rfl rfl rfl) (rowMajor_val3 _ (s * 128) 128 rfl rfl) ?_)
  show q.val * (1 * (s * 128)) + 0 * (s * 128) + u.val * 128 + l.val = q.val * (s * 128) + u.val * 128 + l.val
  ring

theorem cast1H_apply {g s : Nat} (v : IVec (Half g s) 32) (q : Fin g) (u : Fin s) (l : Fin 128) :
    shapeCast (Half1 g s) v (cast1H g s) (ix4 q 0 u l) = v (ix3 q u l) := by
  refine congrArg v (Shape.reshapeEquiv_eq_of_vals _ _ _ _ _ (rowMajor_val3 _ (s * 128) 128 rfl rfl)
    (rowMajor_val4 _ (1 * (s * 128)) (s * 128) 128 rfl rfl rfl) ?_)
  show q.val * (s * 128) + u.val * 128 + l.val = q.val * (1 * (s * 128)) + 0 * (s * 128) + u.val * 128 + l.val
  ring

theorem concHalves_apply {g s : Nat} (x y : IVec (Half1 g s) 32) (q : Fin g) (b : Fin 2) (u : Fin s) (l : Fin 128) :
    concatenate (Halves g s) 1 [⟨Half1 g s, x⟩, ⟨Half1 g s, y⟩] (concHalves g s) (ix4 q b u l) =
      if b = 0 then x (ix4 q 0 u l) else y (ix4 q 0 u l) := by
  fin_cases b <;> pointwise <;> simp

theorem sliceLow_apply {g s : Nat} (v : IVec (Halves g s) 32) (q : Fin g) (u : Fin s) (l : Fin 128) :
    extractStridedSlice (Half1 g s) ![0, 0, 0, 0] v (sliceLow g s) (ix4 q 0 u l) = v (ix4 q 0 u l) := by
  pointwise

theorem sliceHigh_apply {g s : Nat} (v : IVec (Halves g s) 32) (q : Fin g) (u : Fin s) (l : Fin 128) :
    extractStridedSlice (Half1 g s) ![0, 1, 0, 0] v (sliceHigh g s) (ix4 q 0 u l) = v (ix4 q 1 u l) := by
  pointwise

theorem selectHalf_apply {g s : Nat} {t : Shape} (asc : IVec t 1) (ht : t.Broadcasts (Half g s)) (x y : IVec (Half g s) 32)
    (i : (Half g s).Idx) (up : Bool) (hu : broadcastTo (Half g s) asc ht i = BitVec.ofBool up) :
    select (broadcastTo (Half g s) (shapeCast t asc rfl) ht) x y i = if up then x i else y i := by
  rw [shapeCast_self, ← select_ofBool, ← hu]; rfl

theorem pick_halves (A B : BitVec 32) (b : Fin 2) (up : Bool) :
    (if b = 0 then (if up then pick true A B else pick false A B) else (if up then pick false A B else pick true A B)) =
      pick (decide (b = 0) == up) (if b = 0 then A else B) (if b = 0 then B else A) := by
  obtain rfl | rfl : b = 0 ∨ b = 1 := by omega
  · simp only [if_pos, decide_true]
    cases up <;> simp
  · simp only [show (1 : Fin 2) ≠ 0 by decide, if_false, decide_false, pick_comm _ B A]
    cases up <;> simp

theorem half_eq {g s : Nat} (h : g * 2 * s = 16384) (key : Keys) (q : Fin g) (b : Fin 2) (u : Fin s) (l : Fin 128) :
    (if b = 0 then key (ix2 ⟨(q.val * 2 + (0 : Fin 2).val) * s + u.val, rowIndex h q 0 u⟩ l)
      else key (ix2 ⟨(q.val * 2 + (1 : Fin 2).val) * s + u.val, rowIndex h q 1 u⟩ l)) =
    key (ix2 ⟨(q.val * 2 + b.val) * s + u.val, rowIndex h q b u⟩ l) := by
  obtain rfl | rfl : b = 0 ∨ b = 1 := by omega
  · rw [if_pos rfl]
  · rw [if_neg (by decide)]

theorem half_eq' {g s : Nat} (h : g * 2 * s = 16384) (key : Keys) (q : Fin g) (b : Fin 2) (u : Fin s) (l : Fin 128) :
    (if b = 0 then key (ix2 ⟨(q.val * 2 + (1 : Fin 2).val) * s + u.val, rowIndex h q 1 u⟩ l)
      else key (ix2 ⟨(q.val * 2 + (0 : Fin 2).val) * s + u.val, rowIndex h q 0 u⟩ l)) =
    key (ix2 ⟨(q.val * 2 + (1 - b).val) * s + u.val, rowIndex h q (1 - b) u⟩ l) := by
  rw [← half_eq h key q (1 - b) u l]
  obtain rfl | rfl : b = 0 ∨ b = 1 := by omega
  · rw [if_pos rfl, if_neg (by decide)]
  · rw [if_neg (by decide), if_pos (by decide)]

/-- A pass over halves keeps the smaller word in the first half of a group under the mask, in the second half otherwise. -/
theorem halves_apply {g s : Nat} (h : g * 2 * s = 16384) {t : Shape} (asc : IVec t 1) (ht : t.Broadcasts (Half g s)) (key : Keys)
    (q : Fin g) (b : Fin 2) (u : Fin s) (l : Fin 128) (up : Bool)
    (hu : broadcastTo (Half g s) asc ht (ix3 q u l) = BitVec.ofBool up) :
    halves g s h asc ht key (ix2 ⟨(q.val * 2 + b.val) * s + u.val, rowIndex h q b u⟩ l) =
      pick (decide (b = 0) == up) (key (ix2 ⟨(q.val * 2 + b.val) * s + u.val, rowIndex h q b u⟩ l))
        (key (ix2 ⟨(q.val * 2 + (1 - b).val) * s + u.val, rowIndex h q (1 - b) u⟩ l)) := by
  rw [← half_eq h key q b u l, ← half_eq' h key q b u l, ← pick_halves]
  unfold halves
  rw [shapeCast_self, castHK_apply h, concHalves_apply, cast1H_apply, cast1H_apply, selectHalf_apply asc ht _ _ _ up hu,
    selectHalf_apply asc ht _ _ _ up hu]
  unfold minsi maxsi
  simp only [minsi_eq, maxsi_eq]
  rw [castH1_apply, castH1_apply, sliceLow_apply, sliceHigh_apply, castKH_apply h, castKH_apply h]

/-! ## One pass at one word -/

theorem blt_true {a b : Nat} (h : a < b) : Nat.blt a b = true := Nat.ble_eq_true_of_le h
theorem blt_false {a b : Nat} (h : ¬a < b) : Nat.blt a b = false := Bool.eq_false_iff.2 fun e => h (Nat.le_of_ble_eq_true e)

/-- Bit `n` of the position of the word at a row and lane: eleven bits of the row within its sample, then seven of the lane. -/
def posBit (R l n : Nat) : Bool := if n < 11 then R.testBit n else if n < 18 then l.testBit (n - 11) else false

theorem low_testBit {q b s u j : Nat} (hs : s = 2 ^ j) (hb : b < 2) (hu : u < s) : ((q * 2 + b) * s + u).testBit j = decide (b = 1) := by
  subst hs
  rw [Nat.mul_comm, Nat.testBit_two_pow_mul_add _ hu, if_neg (by omega), Nat.sub_self, Nat.testBit_zero]
  congr 1; apply propext; omega

theorem high_testBit {q b s u j k : Nat} (hs : s = 2 ^ j) (hb : b < 2) (hu : u < s) (hk : j < k) :
    ((q * 2 + b) * s + u).testBit k = q.testBit (k - j - 1) := by
  subst hs
  obtain ⟨n, rfl⟩ : ∃ n, k = j + 1 + n := ⟨k - (j + 1), by omega⟩
  rw [Nat.mul_comm, Nat.testBit_two_pow_mul_add _ hu, if_neg (by omega), show j + 1 + n - j = n + 1 by omega, Nat.testBit_succ,
    show (q * 2 + b) / 2 = q by omega, Nat.add_sub_cancel]

theorem bit_group (g : Nat) (hg : g ≤ 2 ^ 31) (q : Fin g) (n : Nat) (hn : n < 32) :
    bit (iota .tc ⟨3, ![g, 1, 1]⟩ 32 [0] (iotaGroup g)) n (ix3 q 0 0) = if q.val.testBit n then 1#32 else 0#32 := by
  have h0 : iota .tc ⟨3, ![g, 1, 1]⟩ 32 [0] (iotaGroup g) (ix3 q 0 0) = BitVec.ofNat 32 q.val := by pointwise
  have hq := q.isLt
  have h : (iota .tc ⟨3, ![g, 1, 1]⟩ 32 [0] (iotaGroup g) (ix3 q 0 0)).toNat = q.val := by rw [h0]; simp; omega
  rw [bit_apply _ _ _ (by omega) hn, h]

theorem bGroup_apply {g s : Nat} (hg : g ≠ 1) (x : IVec ⟨3, ![g, 1, 1]⟩ 1) (q : Fin g) (u : Fin s) (l : Fin 128) :
    broadcastTo (Half g s) x (bGroup g s) (ix3 q u l) = x (ix3 q 0 0) := by
  unfold broadcastTo
  congr 1
  funext a
  match a with
  | ⟨0, _⟩ => exact dif_neg hg
  | ⟨1, _⟩ => exact dif_pos rfl
  | ⟨2, _⟩ => exact dif_pos rfl

theorem bit_lane3 (l : Fin 128) (n : Nat) (hn : n < 32) :
    bit (iota .tc ⟨3, ![1, 1, 128]⟩ 32 [2] (by decide)) n (ix3 0 0 l) = if l.val.testBit n then 1#32 else 0#32 := by
  have h0 : iota .tc ⟨3, ![1, 1, 128]⟩ 32 [2] (by decide) (ix3 0 0 l) = BitVec.ofNat 32 l.val := by pointwise
  have hq := l.isLt
  have h : (iota .tc ⟨3, ![1, 1, 128]⟩ 32 [2] (by decide) (ix3 0 0 l)).toNat = l.val := by rw [h0]; simp; omega
  rw [bit_apply _ _ _ (by omega) hn, h]

theorem eq_zero_bit (a : Bool) : IntOp.cmpi .eq (if a then 1#32 else 0#32) 0#32 = BitVec.ofBool (!a) := by cases a <;> rfl

theorem halfPass_apply (k j : Nat) (hj : j < 11) (hk : j < k) (hk' : k ≤ 18) (key : Keys) (R : Fin 16384) (l : Fin 128) :
    halfPass k j key (ix2 R l) = pick (posBit R l j == posBit R l k) (key (ix2 R l))
      (key (ix2 ⟨R.val ^^^ 2 ^ j, xor_lt (p := 14) R.isLt (by omega)⟩ l)) := by
  have hj' : j ≤ 13 := by omega
  have hs0 : 0 < 2 ^ j := Nat.two_pow_pos j
  have hg := groups hj'
  have hgl : 2 ^ (13 - j) ≤ 2 ^ 31 := Nat.pow_le_pow_right (by omega) (by omega)
  have hRR := R.isLt
  obtain ⟨q, b, u, hR⟩ : ∃ (q : Fin (2 ^ (13 - j))) (b : Fin 2) (u : Fin (2 ^ j)), R = ⟨(q.val * 2 + b.val) * 2 ^ j + u.val, rowIndex hg q b u⟩ := by
    refine ⟨⟨R.val / 2 ^ j / 2, ?_⟩, ⟨R.val / 2 ^ j % 2, by omega⟩, ⟨R.val % 2 ^ j, Nat.mod_lt _ hs0⟩, ?_⟩
    · rw [Nat.div_div_eq_div_mul]; apply Nat.div_lt_of_lt_mul; linarith
    · apply Fin.ext
      simp only
      rw [show R.val / 2 ^ j / 2 * 2 + R.val / 2 ^ j % 2 = R.val / 2 ^ j by omega]
      exact (Nat.div_add_mod' _ _).symm
  have hbj : posBit R l j = decide (b.val = 1) := by
    rw [posBit, if_pos hj, hR]; exact low_testBit rfl b.isLt u.isLt
  have hpart : (⟨R.val ^^^ 2 ^ j, xor_lt (p := 14) R.isLt (by omega)⟩ : Fin 16384) =
      ⟨(q.val * 2 + (1 - b).val) * 2 ^ j + u.val, rowIndex hg q (1 - b) u⟩ := by
    apply Fin.ext
    simp only
    rw [xor_two_pow]
    have : R.val.testBit j = decide (b.val = 1) := by rw [hR]; exact low_testBit rfl b.isLt u.isLt
    rw [this, hR]
    obtain rfl | rfl : b = 0 ∨ b = 1 := by omega
    · simp [Nat.add_mul]; omega
    · simp [Nat.add_mul]; omega
  have hd : decide (b = 0) = !decide (b.val = 1) := by
    obtain rfl | rfl : b = 0 ∨ b = 1 := by omega
    · rfl
    · rfl
  have fin (up : Bool) (hup : posBit R l k = !up) : pick (decide (b = 0) == up) (key (ix2 R l))
        (key (ix2 ⟨(q.val * 2 + (1 - b).val) * 2 ^ j + u.val, rowIndex hg q (1 - b) u⟩ l)) =
      pick (posBit R l j == posBit R l k) (key (ix2 R l)) (key (ix2 ⟨R.val ^^^ 2 ^ j, xor_lt (p := 14) R.isLt (by omega)⟩ l)) := by
    rw [hpart, hbj, hup, hd]
    congr 1
    cases up <;> cases decide (b.val = 1) <;> rfl
  unfold halfPass
  rw [dif_pos hj']
  by_cases h11 : k < 11
  · rw [blt_true h11, cond_true]
    refine Eq.trans ?_ (fin (!R.val.testBit k) (by rw [posBit, if_pos h11]; simp))
    conv_lhs => rw [hR]
    rw [halves_apply hg _ _ key q b u l (!R.val.testBit k), ← hR]
    rw [bGroup_apply (by have := Nat.pow_le_pow_right (n := 2) (by omega) (show 1 ≤ 13 - j by omega); omega)]
    pointwise
    rw [bit_group _ hgl _ _ (by omega), eq_zero_bit, hR, high_testBit rfl b.isLt u.isLt hk]
  · rw [blt_false h11, cond_false]
    by_cases h18 : k < 18
    · rw [blt_true h18, cond_true]
      refine Eq.trans ?_ (fin (!l.val.testBit (k - 11)) (by rw [posBit, if_neg h11, if_pos h18]; simp))
      conv_lhs => rw [hR]
      rw [halves_apply hg _ _ key q b u l (!l.val.testBit (k - 11)), ← hR]
      pointwise
      rw [bit_lane3 _ _ (by omega), eq_zero_bit]
    · rw [blt_false h18, cond_false]
      refine Eq.trans ?_ (fin true (by rw [posBit, if_neg h11, if_neg h18]; simp))
      conv_lhs => rw [hR]
      rw [halves_apply hg _ _ key q b u l true, ← hR]
      pointwise
      rfl

theorem smallPass_apply (k j : Nat) (hj : j < 11) (hk : j < k) (hk' : k ≤ 18) (key : Keys) (R : Fin 16384) (l : Fin 128) :
    smallPass k j key (ix2 R l) = pick (posBit R l j == posBit R l k) (key (ix2 R l))
      (key (ix2 ⟨R.val ^^^ 2 ^ j, xor_lt (p := 14) R.isLt (by omega)⟩ l)) := by
  have hbj : posBit R l j = R.val.testBit j := by rw [posBit, if_pos hj]
  unfold smallPass
  rw [← rowPartner_apply j (by omega) key R l, hbj]
  by_cases h11 : k < 11
  · rw [blt_true h11, cond_true, posBit, if_pos h11]
    exact exchRow_apply _ _ _ _ _ _ _ _ (bit_rows _ _ _ (by omega)) (bit_rows _ _ _ (by omega))
  · rw [blt_false h11, cond_false]
    by_cases h18 : k < 18
    · rw [blt_true h18, cond_true, posBit, if_neg h11, if_pos h18]
      exact exchBoth_apply _ _ _ _ _ _ _ _ (bit_rows _ _ _ (by omega)) (bit_lanes _ _ _ (by omega))
    · rw [blt_false h18, cond_false, posBit, if_neg h11, if_neg h18]
      exact exchRow_apply _ _ _ _ _ _ _ _ (bit_rows _ _ _ (by omega)) (by pointwise; rfl)

theorem lanePass_apply (k j : Nat) (hj : 11 ≤ j) (hk : j < k) (hk' : k ≤ 18) (key : Keys) (R : Fin 16384) (l : Fin 128) :
    lanePass k j key (ix2 R l) = pick (posBit R l j == posBit R l k) (key (ix2 R l))
      (key (ix2 R ⟨l.val ^^^ 2 ^ (j - 11), xor_lt (p := 7) l.isLt (by omega)⟩)) := by
  have hbj : posBit R l j = l.val.testBit (j - 11) := by rw [posBit, if_neg (by omega), if_pos (by omega)]
  have h2 : 2 ^ (j - 11) ≤ 128 := Nat.pow_le_pow_right (n := 2) (by omega) (show j - 11 ≤ 7 by omega)
  unfold lanePass
  rw [dif_pos h2, ← lanePartner_apply (j - 11) (by omega) h2 key R l, hbj]
  by_cases h18 : k < 18
  · rw [blt_true h18, cond_true, posBit, if_neg (by omega), if_pos h18]
    exact exchLane_apply _ _ _ _ _ _ _ _ (bit_lanes _ _ _ (by omega)) (bit_lanes _ _ _ (by omega))
  · rw [blt_false h18, cond_false, posBit, if_neg (by omega), if_neg h18]
    exact exchLane_apply _ _ _ _ _ _ _ _ (bit_lanes _ _ _ (by omega)) (by pointwise; rfl)

/-- The row and lane of the word a pass at distance `2 ^ j` compares with the word at `(R, l)`. -/
def mate (j : Nat) (hj : j < 18) (R : Fin 16384) (l : Fin 128) : K.Idx :=
  if h : j < 11 then ix2 ⟨R.val ^^^ 2 ^ j, xor_lt (p := 14) R.isLt (by omega)⟩ l
  else ix2 R ⟨l.val ^^^ 2 ^ (j - 11), xor_lt (p := 7) l.isLt (by omega)⟩

/-- A pass keeps, at each word, the smaller or the larger of it and its mate: the smaller where bits `j` and `k` of the position
    agree. -/
theorem pass_apply (k j : Nat) (hk : j < k) (hk' : k ≤ 18) (key : Keys) (R : Fin 16384) (l : Fin 128) :
    pass k j key (ix2 R l) = pick (posBit R l j == posBit R l k) (key (ix2 R l)) (key (mate j (by omega) R l)) := by
  unfold pass mate
  by_cases h3 : j < 3
  · rw [blt_true h3, cond_true, dif_pos (by omega)]
    exact smallPass_apply k j (by omega) hk hk' key R l
  · rw [blt_false h3, cond_false]
    by_cases h11 : j < 11
    · rw [blt_true h11, cond_true, dif_pos h11]
      exact halfPass_apply k j (by omega) hk hk' key R l
    · rw [blt_false h11, cond_false, dif_neg h11]
      exact lanePass_apply k j (by omega) hk hk' key R l

end Lovasz

end
-- ==== Proof.Sorting.lean ====
module

public import proofs.«01_k».proof.Proof.PassFacts
public import Idealize.ShloMosaic.Lib.SortNet.Sorts
public import Idealize.ShloMosaic.Lib.Pipeline.Value

@[expose] public section

/-!
# The passes are a sorting network on each sample
-/

namespace Lovasz

open Idealize.ShloMosaic

/-- The number of words of a sample, padding included. -/
abbrev N : Nat := 2 ^ 18

/-- Where position `p` of sample `s` lies in the scratch array. -/
def place (s : Fin 8) (p : Fin N) : K.Idx :=
  ix2 ⟨2048 * s.val + p.val % 2048, by have := s.isLt; have := Nat.mod_lt p.val (show 0 < 2048 by omega); omega⟩
    ⟨p.val / 2048, by have : p.val < 262144 := p.isLt; omega⟩

/-- The words of sample `s` by position, read as signed numbers. -/
def view (key : Keys) (s : Fin 8) (p : Fin N) : Int := (key (place s p)).toInt

theorem posBit_place (s : Fin 8) (p : Fin N) (n : Nat) (hn : n ≤ 18) :
    posBit (2048 * s.val + p.val % 2048) (p.val / 2048) n = p.val.testBit n := by
  unfold posBit
  have hr : p.val % 2048 < 2 ^ 11 := Nat.mod_lt _ (by omega)
  split
  · rename_i h
    have := Nat.testBit_two_pow_mul_add s.val hr n
    rw [if_pos h] at this
    rw [show 2048 * s.val = 2 ^ 11 * s.val from rfl, this, show 2048 = 2 ^ 11 from rfl, Nat.testBit_mod_two_pow]
    simp [h]
  · split
    · rename_i h1 h2
      rw [show 2048 = 2 ^ 11 from rfl, Nat.testBit_div_two_pow]
      congr 1; omega
    · rename_i h1 h2
      obtain rfl : n = 18 := by omega
      exact (Nat.testBit_lt_two_pow p.isLt).symm

theorem mate_place (s : Fin 8) (p : Fin N) (j : Nat) (hj : j < 18) (h1 h2) :
    mate j hj ⟨2048 * s.val + p.val % 2048, h1⟩ ⟨p.val / 2048, h2⟩ = place s (SortNet.partner 18 j p) := by
  have hv := SortNet.partner_val hj p
  have hmod : (SortNet.partner 18 j p).val % 2048 = p.val % 2048 ^^^ 2 ^ j % 2048 := by
    rw [hv]; exact Nat.xor_mod_two_pow (n := 11)
  have hdiv : (SortNet.partner 18 j p).val / 2048 = p.val / 2048 ^^^ 2 ^ j / 2048 := by
    rw [hv]; exact Nat.xor_div_two_pow (n := 11)
  have hr : p.val % 2048 < 2 ^ 11 := Nat.mod_lt _ (by omega)
  unfold mate place
  split
  · rename_i h
    have h3 : 2 ^ j < 2048 := Nat.pow_lt_pow_right (a := 2) (by omega) h
    rw [Nat.mod_eq_of_lt h3] at hmod
    rw [Nat.div_eq_of_lt h3, Nat.xor_zero] at hdiv
    have h4 : (2048 * s.val + p.val % 2048).testBit j = (p.val % 2048).testBit j := by
      have := Nat.testBit_two_pow_mul_add s.val hr j
      rwa [if_pos h] at this
    congr 1 <;> apply Fin.ext <;> simp only
    · rw [hmod, xor_two_pow, xor_two_pow, h4]
      split
      · rename_i h5; have := two_pow_le h5; omega
      · omega
    · exact hdiv.symm
  · rename_i h
    obtain ⟨n, rfl⟩ : ∃ n, j = 11 + n := ⟨j - 11, by omega⟩
    rw [Nat.pow_add] at hmod hdiv
    rw [show 2 ^ 11 = 2048 from rfl, Nat.mul_mod_right, Nat.xor_zero] at hmod
    rw [show 2 ^ 11 = 2048 from rfl, Nat.mul_div_cancel_left _ (by omega)] at hdiv
    congr 1 <;> apply Fin.ext <;> simp only
    · omega
    · rw [hdiv, show 11 + n - 11 = n by omega]

/-- A stage of a network, from what it does at every position. -/
theorem apply_stage_eq {p j : Nat} (hj : j < p) (w : Fin (2 ^ p) → Bool) (v f : Fin (2 ^ p) → Int)
    (hw : ∀ i, w (SortNet.partner p j i) = w i)
    (hf : ∀ i, f i = if i.val.testBit j == w i then min (v i) (v (SortNet.partner p j i)) else max (v i) (v (SortNet.partner p j i))) :
    f = SortNet.Network.apply (SortNet.stage p j w) v := by
  funext i
  by_cases hi : i.val &&& 2 ^ j = 0
  · rw [(SortNet.apply_stage hj w v i hi).1, hf, (SortNet.and_two_pow_eq_zero_iff_testBit _ _).1 hi]
    cases w i <;> rfl
  · have hp := SortNet.partner_and_of_set hj i hi
    have h := (SortNet.apply_stage hj w v _ hp).2
    rw [SortNet.partner_partner hj] at h
    have hb : i.val.testBit j = true := by
      rw [SortNet.and_two_pow_eq_zero_iff_testBit] at hi; simpa using hi
    rw [h, hf, hw, hb, min_comm, max_comm]
    cases w i <;> rfl

/-- Where a pass puts the larger word first: where bit `k` of the position is set. -/
def winner (k : Nat) (i : Fin N) : Bool := decide (i.val &&& 2 ^ k = 0) == false

theorem winner_eq (k : Nat) (i : Fin N) : winner k i = i.val.testBit k := by
  unfold winner
  have := SortNet.and_two_pow_eq_zero_iff_testBit i.val k
  cases h : i.val.testBit k <;> simp [this, h]

/-- One pass is one stage of the network, on every sample. -/
theorem view_pass (k j : Nat) (hk : j < k) (hk' : k ≤ 18) (key : Keys) (s : Fin 8) :
    view (pass k j key) s = SortNet.Network.apply (SortNet.stage 18 j (winner k)) (view key s) := by
  have hj : j < 18 := by omega
  refine apply_stage_eq hj _ _ _ (fun i => ?_) (fun i => ?_)
  · rw [winner_eq, winner_eq, SortNet.partner_val hj, Nat.testBit_xor, Nat.testBit_two_pow]
    simp [show j ≠ k by omega]
  · unfold view
    rw [winner_eq, ← mate_place s i j hj]
    conv_lhs => unfold place
    rw [pass_apply k j hk hk', pick_toInt, posBit_place s i j (by omega), posBit_place s i k hk']
    rfl

theorem view_passes (L : List (Nat × Nat)) (hL : ∀ kj ∈ L, kj.2 < kj.1 ∧ kj.1 ≤ 18) (key : Keys) (s : Fin 8) :
    view (L.foldl (fun key kj => pass kj.1 kj.2 key) key) s =
      SortNet.Network.apply (L.flatMap fun kj => SortNet.stage 18 kj.2 (winner kj.1)) (view key s) := by
  induction L generalizing key with
  | nil => rfl
  | cons a L ih =>
    have ha := hL a List.mem_cons_self
    rw [List.foldl_cons, List.flatMap_cons, SortNet.Network.apply_append, ih fun kj h => hL kj (List.mem_cons_of_mem _ h),
      view_pass _ _ ha.1 ha.2]

theorem passes_eq : (passes.flatMap fun kj => SortNet.stage 18 kj.2 (winner kj.1)) = SortNet.sortNet 18 false := by
  unfold passes SortNet.sortNet winner
  rw [List.flatMap_assoc]
  refine List.flatMap_congr fun l _ => ?_
  rw [List.flatMap_map]

/-- The passes apply the sorting network to every sample. -/
theorem view_sorted (x : IVec X 32) (s : Fin 8) :
    view (sorted x) s = SortNet.Network.apply (SortNet.sortNet 18 false) (view (fill x) s) := by
  unfold sorted
  rw [view_passes, passes_eq]
  intro kj h
  unfold passes at h
  simp only [List.mem_flatMap, List.mem_range, List.mem_map, List.mem_reverse] at h
  obtain ⟨l, hl, j, hj, rfl⟩ := h
  exact ⟨by simpa using hj, by simp only; omega⟩

/-- After the passes every sample is in ascending order. -/
theorem sorted_monotone (x : IVec X 32) (s : Fin 8) : Monotone (view (sorted x) s) := by
  rw [view_sorted]; exact SortNet.sortNet_apply_monotone 18 _

/-- The passes rearrange the words of every sample. -/
theorem sorted_perm (x : IVec X 32) (s : Fin 8) : ∃ σ : Equiv.Perm (Fin N), view (sorted x) s = view (fill x) s ∘ σ := by
  rw [view_sorted]; exact SortNet.Network.exists_perm _ _

/-! ## The words before the first pass -/

/-- The word at row `r` and lane `l` of a sample, in the staged block. -/
def source (s : Fin 8) (r : Fin 1152) (l : Fin 128) : X.Idx :=
  ix3 s ⟨(r.val * 128 + l.val) / 384, by have := r.isLt; have := l.isLt; omega⟩
    ⟨(r.val * 128 + l.val) % 384, Nat.mod_lt _ (by omega)⟩

theorem sample_apply (x : IVec X 32) (s : Fin 8) (h) (r : Fin 1152) (l : Fin 128) :
    sample (shapeCast X' x (by decide)) s.val h (ix2 r l) = x (source s r l) := by
  unfold sample source
  pointwise
  congr 1
  apply congr (congrArg _ _) <;> apply Fin.ext <;> simp only <;> omega

/-- The contents before the first pass, read in a sample's rows. -/
theorem fill_data (x : IVec X 32) (s : Fin 8) (r : Fin 1152) (l : Fin 128) :
    fill x (ix2 ⟨2048 * s.val + r.val, by omega⟩ l) = x (source s r l) := by
  unfold fill
  simp only [shapeCast_self]
  rw [← sample_apply x s (by revert s; decide)]
  refine concatenate_apply_piece (t := K) 0 _ _ _ (2 * s.val) ?_ ⟨2, ![1152, 128]⟩ _ ?_ rfl
    (2048 * s.val) ?_ (ix2 r l) ?_ ?_
  · simp only [List.length_cons, List.length_nil]; omega
  · fin_cases s <;> rfl
  · fin_cases s <;> simp
  · intro b hb; fin_cases b; exact absurd rfl hb; rfl
  · rfl

/-- The contents before the first pass, read in the padding after a sample. -/
theorem fill_pad (x : IVec X 32) (s : Fin 8) (r : Fin 896) (l : Fin 128) :
    fill x (ix2 ⟨2048 * s.val + 1152 + r.val, by omega⟩ l) = 2139095040#32 := by
  unfold fill
  simp only [shapeCast_self]
  refine (concatenate_apply_piece (t := K) 0 _ _ _ (2 * s.val + 1) ?_ _ padRows ?_ rfl
    (2048 * s.val + 1152) ?_ (ix2 r l) ?_ ?_).trans rfl
  · simp only [List.length_cons, List.length_nil]; omega
  · fin_cases s <;> rfl
  · fin_cases s <;> simp
  · intro b hb; fin_cases b; exact absurd rfl hb; rfl
  · rfl

end Lovasz

end
-- ==== Proof.Decode.lean ====
module

public import Idealize.ShloMosaic.Lib.TotalOrder
public import Idealize.ShloMosaic.PureOps.Ideal.Laws

@[expose] public section

/-!
# The number a key stands for

A key that is not negative is the bit pattern of a number; a negative key is the pattern with its low 31 bits
flipped. Signed order of the keys is then the order of the numbers, apart from the keys `-1` and `0`, which both
stand for zero.
-/

namespace Lovasz

open Idealize.ShloMosaic Idealize.ShloMosaic.TotalOrder

/-- The bit pattern a key stands for. -/
def pattern (k : BitVec 32) : BitVec 32 := if 0 ≤ k.toInt then k else k ^^^ 2147483647#32

/-- The number a key stands for. -/
noncomputable def dec (k : BitVec 32) : EReal := Ideal.ieee 8 23 (pattern k)

/-- The keys of the numbers and of the infinities. -/
def Valid (k : BitVec 32) : Prop := -2139095041 ≤ k.toInt ∧ k.toInt ≤ 2139095040

/-- Flipping the low 31 bits of a word whose top bit is set. -/
theorem flip_toNat (k : BitVec 32) (h : 2 ^ 31 ≤ k.toNat) : (k ^^^ 2147483647#32).toNat = 2 ^ 31 + (2 ^ 32 - 1 - k.toNat) := by
  have hk := k.isLt
  rw [BitVec.toNat_xor]
  have hm : (k.toNat ^^^ (2147483647#32).toNat) % 2 ^ 31 = 2 ^ 32 - 1 - k.toNat := by
    rw [Nat.xor_mod_two_pow, show (2147483647#32).toNat % 2 ^ 31 = (BitVec.allOnes 31).toNat from rfl]
    have h1 : k.toNat % 2 ^ 31 = (BitVec.ofNat 31 k.toNat).toNat := (BitVec.toNat_ofNat ..).symm
    rw [h1, ← BitVec.toNat_xor, BitVec.xor_allOnes, BitVec.toNat_not, ← h1]
    omega
  have hd : (k.toNat ^^^ (2147483647#32).toNat) / 2 ^ 31 = 1 := by
    rw [Nat.xor_div_two_pow, show (2147483647#32).toNat / 2 ^ 31 = 0 from rfl, Nat.xor_zero]
    omega
  omega

/-- The magnitude bits of a key's pattern. -/
def size (k : BitVec 32) : Nat := if 0 ≤ k.toInt then k.toInt.toNat else (-k.toInt - 1).toNat

theorem pattern_facts (k : BitVec 32) : (pattern k).msb = decide (k.toInt < 0) ∧ mag 8 23 (pattern k) = size k := by
  have hk := k.isLt
  have ht := BitVec.toInt_eq_toNat_cond k
  have hs := toNat_eq_sign_add_mag (e := 8) (m := 23) (pattern k)
  have hl := mag_lt 8 23 (pattern k)
  have hmsb := msb_iff (e := 8) (m := 23) (pattern k)
  unfold size
  by_cases h : 0 ≤ k.toInt
  · have hp : pattern k = k := if_pos h
    have hn : k.toNat < 2 ^ 31 := by split at ht <;> omega
    rw [if_neg (by rw [hmsb, hp]; omega), hp] at hs
    rw [if_pos h]
    constructor
    · rw [decide_eq_false (by omega)]
      by_contra hc
      have := hmsb.1 (by simpa using hc)
      rw [hp] at this; omega
    · rw [hp]; split at ht <;> omega
  · have hp : pattern k = k ^^^ 2147483647#32 := if_neg h
    have hn : 2 ^ 31 ≤ k.toNat := by split at ht <;> omega
    have hf := flip_toNat k hn
    have hm : (pattern k).msb = true := by rw [hmsb, hp, hf]; omega
    rw [if_pos hm, hp, hf] at hs
    rw [if_neg h]
    constructor
    · rw [hm, decide_eq_true (by omega)]
    · rw [hp]; split at ht <;> omega

theorem not_nan {k : BitVec 32} (h : Valid k) : ¬ IsNaN 8 23 (pattern k) := by
  rintro ⟨h1, h2⟩
  have hm := (pattern_facts k).2
  unfold mag size at hm
  unfold Valid at h
  rw [h1] at hm
  split at hm <;> omega

theorem dec_of_nonneg {k : BitVec 32} (h : Valid k) (hk : 0 ≤ k.toInt) : dec k = absVal 8 23 (pattern k) := by
  unfold dec
  rw [ieee_eq_signed_absVal (not_nan h), sign_eq_msb (e := 8) (m := 23), (pattern_facts k).1, decide_eq_false (by omega)]
  rfl

theorem dec_of_neg {k : BitVec 32} (h : Valid k) (hk : k.toInt < 0) : dec k = - absVal 8 23 (pattern k) := by
  unfold dec
  rw [ieee_eq_signed_absVal (not_nan h), sign_eq_msb (e := 8) (m := 23), (pattern_facts k).1, decide_eq_true hk]
  rfl

/-- Keys from `-1` on stand for numbers that are not negative. -/
theorem dec_nonneg {k : BitVec 32} (h : Valid k) (hk : -1 ≤ k.toInt) : 0 ≤ dec k := by
  by_cases h0 : 0 ≤ k.toInt
  · rw [dec_of_nonneg h h0]; exact absVal_nonneg _
  · have hz : dec 4294967295#32 = 0 := by
      unfold dec pattern; simp [Ideal.ieee]
    have : k = 4294967295#32 := by
      apply BitVec.eq_of_toInt_eq; rw [show (4294967295#32).toInt = -1 by decide]; omega
    rw [this, hz]

/-- Below `-1` a larger key stands for a larger number. -/
theorem dec_lt {a b : BitVec 32} (ha : Valid a) (hb : Valid b) (h : a.toInt < b.toInt) (h1 : a.toInt < -1) : dec a < dec b := by
  have hsa : size a = (-a.toInt - 1).toNat := if_neg (by omega)
  by_cases h2 : b.toInt < -1
  · have hsb : size b = (-b.toInt - 1).toNat := if_neg (by omega)
    rw [dec_of_neg ha (by omega), dec_of_neg hb (by omega), EReal.neg_lt_neg_iff,
      absVal_lt_absVal_iff (not_nan hb) (not_nan ha), (pattern_facts a).2, (pattern_facts b).2]
    omega
  · refine lt_of_lt_of_le ?_ (dec_nonneg hb (by omega))
    rw [dec_of_neg ha (by omega), EReal.neg_lt_comm, neg_zero]
    refine lt_of_le_of_ne (absVal_nonneg _) fun hz => ?_
    have := isZero_of_absVal_eq_zero hz.symm
    rw [isZero_iff_mag_eq_zero, (pattern_facts a).2] at this
    omega

/-- A key's place in the order, all keys from `-1` on taken together. -/
def rank (k : BitVec 32) : Int := min k.toInt (-1)

theorem rank_le_of_dec_le {a b : BitVec 32} (ha : Valid a) (hb : Valid b) (h : dec a ≤ dec b) : rank a ≤ rank b := by
  by_contra hc
  unfold rank at hc
  exact absurd h (not_le.2 (dec_lt hb ha (by omega) (by omega)))

end Lovasz

end
-- ==== Proof.Ranked.lean ====
module

public import proofs.«01_k».proof.Proof.Decode
public import Mathlib.Data.List.Sort

@[expose] public section

/-!
# The loss of a sequence of keys, and why two orders give the same one

The loss of a sequence sums, over its positions, the error there (nothing if it is negative) times the growth of the
Jaccard loss from the prefix before to the prefix with it. Two sequences of the same keys, one ordered by key and
padded with a large key, the other ordered by number, agree wherever the error is positive.
-/

namespace Lovasz

open Idealize.ShloMosaic Finset

/-- The label of a key. -/
noncomputable def lab (k : BitVec 32) : ℝ := ((k &&& 1#32).toInt : ℝ)

/-- The padding key. -/
abbrev padKey : BitVec 32 := 2139095040#32

theorem lab_pad : lab padKey = 0 := by
  unfold lab; rw [show padKey &&& 1#32 = 0#32 by decide]; simp

/-- The labels counted over the positions up to `i`. -/
noncomputable def cum (v : ℕ → BitVec 32) (i : ℕ) : ℝ := ∑ k ∈ range (i + 1), lab (v k)

/-- The small number added to the union. -/
noncomputable def tiny : EReal := Ideal.ofBits .f32 0x33D6BF95#32

/-- The small number, as a real. -/
noncomputable def eps : ℝ := tiny.toReal

/-- The Jaccard loss of a prefix of `i + 1` positions with `c` of the `g` labels in it. -/
noncomputable def jac (g c : ℝ) (i : ℕ) : ℝ := 1 - (g - c) * (((g + (i + 1)) - c) + eps)⁻¹

/-- Its growth at position `i`. -/
noncomputable def growth (v : ℕ → BitVec 32) (g : ℝ) (i : ℕ) : ℝ :=
  jac g (cum v i) i - if i = 0 then 0 else jac g (cum v (i - 1)) (i - 1)

/-- A position's share of the loss. -/
noncomputable def share (v : ℕ → BitVec 32) (g : ℝ) (i : ℕ) : EReal := max (-dec (v i)) 0 * (growth v g i : EReal)

/-- The loss of the first `n` keys of a sequence. -/
noncomputable def lovasz (v : ℕ → BitVec 32) (n : ℕ) : EReal := ∑ i ∈ range n, share v (cum v (n - 1)) i

theorem share_eq_zero {v : ℕ → BitVec 32} {i : ℕ} (h : Valid (v i)) (h1 : -1 ≤ (v i).toInt) (g : ℝ) : share v g i = 0 := by
  unfold share
  rw [max_eq_right, zero_mul]
  have := dec_nonneg h h1
  rwa [EReal.neg_le, neg_zero]

theorem cum_congr {v w : ℕ → BitVec 32} {i : ℕ} (h : ∀ k ≤ i, v k = w k) : cum v i = cum w i :=
  sum_congr rfl fun k hk => by rw [h k (by simp at hk; omega)]

theorem share_congr {v w : ℕ → BitVec 32} {i : ℕ} (h : ∀ k ≤ i, v k = w k) (g : ℝ) : share v g i = share w g i := by
  unfold share growth
  rw [h i le_rfl, cum_congr h, cum_congr (i := i - 1) fun k hk => h k (by omega)]

theorem valid_pad : Valid padKey := by unfold Valid; decide

theorem sum_range_eq_list (f : ℕ → ℝ) (n : ℕ) : ∑ i ∈ range n, f i = ((List.range n).map f).sum := by
  induction n with
  | zero => rfl
  | succ n ih => rw [sum_range_succ, List.range_succ, List.map_append, List.sum_append, ih]; simp

/-- The same keys have the same labels in all. -/
theorem sum_lab_of_perm {v d : ℕ → BitVec 32} {n N : ℕ} (hn : n ≤ N)
    (hv : ((List.range N).map v).Perm ((List.range n).map d ++ List.replicate (N - n) padKey)) :
    ∑ i ∈ range N, lab (v i) = ∑ i ∈ range n, lab (d i) := by
  rw [sum_range_eq_list, sum_range_eq_list]
  have := (hv.map lab).sum_eq
  rw [List.map_append, List.sum_append, List.map_map, List.map_map, List.map_replicate, lab_pad] at this
  simpa [Function.comp_def] using this

/-- The sequence `u` of `n` keys, padded. -/
def padded (u : ℕ → BitVec 32) (n i : ℕ) : BitVec 32 := if i < n then u i else padKey

theorem map_padded (u : ℕ → BitVec 32) {n N : ℕ} (hn : n ≤ N) :
    (List.range N).map (padded u n) = (List.range n).map u ++ List.replicate (N - n) padKey := by
  apply List.ext_getElem
  · simp; omega
  · intro i h1 h2
    simp only [List.getElem_map, List.getElem_range, List.getElem_append, List.length_map, List.length_range,
      List.getElem_replicate, padded]
    split <;> simp

/-- Sequences in ascending order by rank with the same keys have the same ranks, position by position. -/
theorem rank_eq {v w : ℕ → BitVec 32} {N : ℕ} (hv : ∀ i j, i ≤ j → j < N → rank (v i) ≤ rank (v j))
    (hw : ∀ i j, i ≤ j → j < N → rank (w i) ≤ rank (w j)) (h : ((List.range N).map v).Perm ((List.range N).map w))
    (i : ℕ) (hi : i < N) : rank (v i) = rank (w i) := by
  have key : ∀ x : ℕ → BitVec 32, (∀ i j, i ≤ j → j < N → rank (x i) ≤ rank (x j)) →
      (((List.range N).map x).map rank).Pairwise (· ≤ ·) := by
    intro x hx
    rw [List.map_map, List.pairwise_map]
    refine List.Pairwise.imp_of_mem ?_ List.pairwise_lt_range
    intro a b ha hb hab
    exact hx a b hab.le (List.mem_range.1 hb)
  have := List.Perm.eq_of_pairwise' (key v hv) (key w hw) (h.map rank)
  have h2 := congrArg (fun l => l[i]?) this
  simpa [hi] using h2

theorem rank_pad : rank padKey = -1 := by unfold rank; decide

theorem rank_le (k : BitVec 32) : rank k ≤ -1 := by unfold rank; omega

/-- The loss does not depend on which of the two orders is taken. -/
theorem lovasz_eq {v u d : ℕ → BitVec 32} {n N : ℕ} (h0 : 0 < n) (hn : n ≤ N)
    (hd : ∀ i < n, Valid (d i))
    (hv : ((List.range N).map v).Perm ((List.range n).map d ++ List.replicate (N - n) padKey))
    (hvm : ∀ i j, i ≤ j → j < N → (v i).toInt ≤ (v j).toInt)
    (hu : ((List.range n).map u).Perm ((List.range n).map d))
    (hum : ∀ i j, i ≤ j → j < n → dec (u i) ≤ dec (u j)) :
    lovasz v N = lovasz u n := by
  have hg : cum v (N - 1) = cum u (n - 1) := by
    unfold cum
    rw [show N - 1 + 1 = N by omega, show n - 1 + 1 = n by omega, sum_lab_of_perm hn hv, sum_lab_of_perm (le_refl n)]
    rw [Nat.sub_self, List.replicate_zero, List.append_nil]
    exact hu.symm
  have huv : ∀ i < n, Valid (u i) := by
    intro i hi
    have h1 : u i ∈ (List.range n).map u := List.mem_map_of_mem (List.mem_range.2 hi)
    obtain ⟨j, hj, h2⟩ := List.mem_map.1 (hu.subset h1)
    rw [← h2]; exact hd j (List.mem_range.1 hj)
  have hvv : ∀ i < N, Valid (v i) := by
    intro i hi
    have h1 : v i ∈ (List.range N).map v := List.mem_map_of_mem (List.mem_range.2 hi)
    rcases List.mem_append.1 (hv.subset h1) with h3 | h3
    · obtain ⟨j, hj, h2⟩ := List.mem_map.1 h3
      rw [← h2]; exact hd j (List.mem_range.1 hj)
    · rw [List.eq_of_mem_replicate h3]; exact valid_pad
  have hr : ∀ i < N, rank (v i) = rank (padded u n i) := by
    apply rank_eq
    · intro i j hij hj
      have := hvm i j hij hj
      unfold rank; omega
    · intro i j hij hj
      unfold padded
      by_cases hjn : j < n
      · rw [if_pos hjn, if_pos (by omega)]
        exact rank_le_of_dec_le (huv i (by omega)) (huv j hjn) (hum i j hij hjn)
      · rw [if_neg hjn, rank_pad]; exact rank_le _
    · rw [map_padded u hn]
      exact hv.trans (hu.symm.append_right _)
  have hlow : ∀ i < N, rank (v i) < -1 → i < n ∧ v i = u i := by
    intro i hi h
    have h2 := hr i hi
    unfold padded at h2
    by_cases hin : i < n
    · refine ⟨hin, BitVec.eq_of_toInt_eq ?_⟩
      rw [if_pos hin] at h2
      unfold rank at h h2; omega
    · rw [if_neg hin, rank_pad] at h2; omega
  have hshare : ∀ i < N, share v (cum v (N - 1)) i = if i < n then share u (cum u (n - 1)) i else 0 := by
    intro i hi
    rw [hg]
    by_cases h : rank (v i) < -1
    · rw [if_pos (hlow i hi h).1]
      refine share_congr (fun k hk => (hlow k (by omega) ?_).2) _
      have := hvm k i hk hi
      unfold rank at h ⊢; omega
    · have h3 := hr i hi
      rw [share_eq_zero (hvv i hi) (by unfold rank at h; omega)]
      split
      · rename_i hin
        unfold padded at h3
        rw [if_pos hin] at h3
        exact (share_eq_zero (huv i hin) (by unfold rank at h h3; omega) _).symm
      · rfl
  unfold lovasz
  rw [sum_congr rfl fun i hi => hshare i (mem_range.1 hi), ← sum_filter]
  congr 1
  ext i; simp; omega

end Lovasz

end
-- ==== Proof.Scans.lean ====
module

public import proofs.«01_k».proof.Proof.Sorting
public import proofs.«01_k».proof.Proof.Ranked

@[expose] public section

/-!
# The counts after the last pass, read at a position
-/

namespace Lovasz

open Idealize.ShloMosaic Finset

/-! ## Running sums by doubling -/

/-- The sum of the last `w` values up to `r`. -/
def window (f : ℕ → ℝ) (w r : ℕ) : ℝ := ∑ k ∈ range w, if k ≤ r then f (r - k) else 0

theorem window_one (f : ℕ → ℝ) (r : ℕ) : window f 1 r = f r := by unfold window; simp

theorem window_double (f : ℕ → ℝ) (w r : ℕ) :
    window f w r + (if w ≤ r then window f w (r - w) else 0) = window f (w + w) r := by
  unfold window
  rw [sum_range_add]
  congr 1
  split
  · rename_i h
    refine sum_congr rfl fun k _ => ?_
    by_cases hk : w + k ≤ r
    · rw [if_pos hk, if_pos (by omega), Nat.sub_sub]
    · rw [if_neg hk, if_neg (by omega)]
  · rename_i h
    exact (sum_eq_zero fun k _ => if_neg (by omega)).symm

theorem window_full (f : ℕ → ℝ) (w r : ℕ) (h : r < w) : window f w r = ∑ k ∈ range (r + 1), f k := by
  unfold window
  rw [← sum_filter]
  have : (range w).filter (· ≤ r) = range (r + 1) := by ext k; simp; omega
  rw [this, ← sum_range_reflect]
  refine sum_congr rfl fun k hk => ?_
  rw [mem_range] at hk
  congr 1; omega

/-- A step of the running sum along the rows doubles the window. -/
theorem rowStep_window (s t : ℕ) (h : s + t = 2048) (x : FVec Ideal D .f32) (f : ℕ → ℝ) (b : Fin 8) (l : Fin 128)
    (hx : ∀ r : Fin 2048, x (ix3 b r l) = ((window f s r : ℝ) : EReal)) (r : Fin 2048) :
    rowStep s t h x (ix3 b r l) = ((window f (s + s) r : ℝ) : EReal) := by
  rw [← window_double, EReal.coe_add, ← hx]
  unfold rowStep
  pointwise
  congr 1
  split
  · rename_i h1
    have h1 : r.val < s := h1
    rw [if_neg (show ¬ s ≤ r.val by omega)]; rfl
  · rename_i h1
    have h1 : ¬ r.val < s := h1
    refine (hx _).trans ?_
    rw [if_pos (show s ≤ r.val by omega)]

/-- A step of the running sum along the lanes doubles the window. -/
theorem laneStep_window (s t : ℕ) (h : s + t = 128) (x : FVec Ideal DLane .f32) (f : ℕ → ℝ) (b : Fin 8)
    (hx : ∀ l : Fin 128, x (ix3 b 0 l) = ((window f s l : ℝ) : EReal)) (l : Fin 128) :
    laneStep s t h x (ix3 b 0 l) = ((window f (s + s) l : ℝ) : EReal) := by
  rw [← window_double, EReal.coe_add, ← hx]
  unfold laneStep
  pointwise
  congr 1
  split
  · rename_i h1
    have h1 : l.val < s := h1
    rw [if_neg (show ¬ s ≤ l.val by omega)]; rfl
  · rename_i h1
    have h1 : ¬ l.val < s := h1
    refine (hx _).trans ?_
    rw [if_pos (show s ≤ l.val by omega)]

theorem rowSums_apply (x : FVec Ideal D .f32) (f : ℕ → ℝ) (b : Fin 8) (l : Fin 128)
    (hx : ∀ r : Fin 2048, x (ix3 b r l) = ((f r : ℝ) : EReal)) (r : Fin 2048) :
    rowSums x (ix3 b r l) = ((∑ k ∈ range (r.val + 1), f k : ℝ) : EReal) := by
  rw [← window_full f 2048 r.val r.isLt]
  unfold rowSums
  refine rowStep_window _ _ _ _ f b l ?_ r
  refine rowStep_window _ _ _ _ f b l ?_
  refine rowStep_window _ _ _ _ f b l ?_
  refine rowStep_window _ _ _ _ f b l ?_
  refine rowStep_window _ _ _ _ f b l ?_
  refine rowStep_window _ _ _ _ f b l ?_
  refine rowStep_window _ _ _ _ f b l ?_
  refine rowStep_window _ _ _ _ f b l ?_
  refine rowStep_window _ _ _ _ f b l ?_
  refine rowStep_window _ _ _ _ f b l ?_
  refine rowStep_window _ _ _ _ f b l ?_
  intro r; rw [window_one]; exact hx r

theorem laneSums_apply (x : FVec Ideal DLane .f32) (f : ℕ → ℝ) (b : Fin 8)
    (hx : ∀ l : Fin 128, x (ix3 b 0 l) = ((f l : ℝ) : EReal)) (l : Fin 128) :
    laneSums x (ix3 b 0 l) = ((∑ k ∈ range (l.val + 1), f k : ℝ) : EReal) := by
  rw [← window_full f 128 l.val l.isLt]
  unfold laneSums
  refine laneStep_window _ _ _ _ f b ?_ l
  refine laneStep_window _ _ _ _ f b ?_
  refine laneStep_window _ _ _ _ f b ?_
  refine laneStep_window _ _ _ _ f b ?_
  refine laneStep_window _ _ _ _ f b ?_
  refine laneStep_window _ _ _ _ f b ?_
  refine laneStep_window _ _ _ _ f b ?_
  intro l; rw [window_one]; exact hx l

/-! ## Sums over positions, lane by lane -/

theorem sum_blocks {M : Type} [AddCommMonoid M] (f : ℕ → M) (a n : ℕ) :
    ∑ p ∈ range (a * n), f p = ∑ l ∈ range n, ∑ r ∈ range a, f (r + a * l) := by
  induction n with
  | zero => simp
  | succ n ih =>
    rw [Nat.mul_succ, sum_range_add, sum_range_succ, ih]
    congr 1
    exact sum_congr rfl fun r _ => by rw [Nat.add_comm]

theorem sum_positions {M : Type} [AddCommMonoid M] (f : ℕ → M) :
    ∑ r : Fin 2048, ∑ l : Fin 128, f (r.val + 2048 * l.val) = ∑ p ∈ range 262144, f p := by
  rw [sum_comm, show 262144 = 2048 * 128 from rfl, sum_blocks, ← Fin.sum_univ_eq_sum_range]
  refine sum_congr rfl fun l _ => ?_
  rw [← Fin.sum_univ_eq_sum_range (fun r => f (r + 2048 * l.val))]

/-! ## The counts and the Jaccard losses -/

theorem lab_nonneg (k : BitVec 32) : 0 ≤ lab k := by
  unfold lab
  rw [Int.cast_nonneg_iff]
  have h : (k &&& 1#32).toNat ≤ 1 := by rw [BitVec.toNat_and]; exact Nat.and_le_right
  rw [BitVec.toInt_eq_toNat_cond]
  split <;> omega

theorem cum_le {v : ℕ → BitVec 32} {i j : ℕ} (h : i ≤ j) : cum v i ≤ cum v j :=
  sum_le_sum_of_subset_of_nonneg (range_mono (by omega)) fun k _ _ => lab_nonneg _

theorem tiny_eq : tiny = ((eps : ℝ) : EReal) ∧ 0 < eps := by
  have h : ∃ e : ℝ, 0 < e ∧ tiny = ((e : ℝ) : EReal) := by
    unfold tiny Ideal.ofBits Ideal.ieee
    simp only [show (0x33D6BF95#32).extractLsb' 23 8 = 103#8 by decide, show (0x33D6BF95#32).extractLsb' 0 23 = 5685141#23 by decide,
      show (0x33D6BF95#32).extractLsb' (8 + 23) 1 = 0#1 by decide]
    refine ⟨_, ?_, by simp; rfl⟩
    positivity
  obtain ⟨e, he, ht⟩ := h
  unfold eps
  rw [ht]
  exact ⟨by simp, by simpa using he⟩

/-- The Jaccard loss as the programs divide it out. -/
theorem jac_div (g c : ℝ) (i : ℕ) (h : c ≤ g) (x y : EReal) (hx : x = ((g - c : ℝ) : EReal))
    (hy : y = (((g + (i + 1)) - c : ℝ) : EReal)) :
    1 - Ideal.div x (y + tiny) = ((jac g c i : ℝ) : EReal) := by
  have hp : (0 : ℝ) < ((g + (i + 1)) - c) + eps := by
    have := tiny_eq.2
    have : (0 : ℝ) ≤ i := Nat.cast_nonneg i
    linarith
  rw [hx, hy, tiny_eq.1, ← EReal.coe_add]
  unfold Ideal.div jac
  rw [if_neg (by rw [EReal.coe_eq_zero]; exact hp.ne'), ← EReal.coe_inv, ← EReal.coe_mul, ← EReal.coe_one, ← EReal.coe_sub]

/-! ## The loss after the last pass -/

/-- The keys of sample `s` by position, as a sequence. -/
def words (key : Keys) (s : Fin 8) (n : ℕ) : BitVec 32 := if h : n < N then key (place s ⟨n, h⟩) else padKey

theorem kp_apply (key : Keys) (s : Fin 8) (r : Fin 2048) (l : Fin 128) :
    shapeCast D key (by decide) (ix3 s r l) = words key s (r.val + 2048 * l.val) := by
  have hr := r.isLt
  have hl := l.isLt
  unfold words place
  rw [dif_pos (show r.val + 2048 * l.val < N by unfold N; omega)]
  pointwise
  congr 1
  apply congr (congrArg _ _) <;> apply Fin.ext <;> simp only <;> omega

theorem labs_apply (key : Keys) (s : Fin 8) (r : Fin 2048) (l : Fin 128) :
    labs (F := Ideal) (shapeCast D key (by decide)) (ix3 s r l) = ((lab (words key s (r.val + 2048 * l.val)) : ℝ) : EReal) := by
  rw [← kp_apply]
  rfl

/-- The labels of one lane up to a row. -/
noncomputable def rowCount (v : ℕ → BitVec 32) (l r : ℕ) : ℝ := ∑ k ∈ range (r + 1), lab (v (k + 2048 * l))

theorem cum_eq (v : ℕ → BitVec 32) (r l : ℕ) :
    cum v (r + 2048 * l) = rowCount v l r + ((∑ k ∈ range (l + 1), rowCount v k 2047) - rowCount v l 2047) := by
  unfold cum
  rw [show r + 2048 * l + 1 = 2048 * l + (r + 1) by omega, sum_range_add, sum_blocks, sum_range_succ (fun k => rowCount v k 2047), add_sub_cancel_right, add_comm]
  congr 1
  exact sum_congr rfl fun k _ => by rw [Nat.add_comm]

theorem cs_apply (key : Keys) (s : Fin 8) (r : Fin 2048) (l : Fin 128) :
    rowSums (F := Ideal) (labs (shapeCast D key (by decide))) (ix3 s r l) = ((rowCount (words key s) l r : ℝ) : EReal) :=
  rowSums_apply _ (fun k => lab (words key s (k + 2048 * l.val))) s l (fun r => labs_apply key s r l) r

theorem inc_apply (key : Keys) (s : Fin 8) (l : Fin 128) :
    laneSums (F := Ideal) (lastRow (rowSums (labs (shapeCast D key (by decide))))) (ix3 s 0 l) =
      ((∑ k ∈ range (l.val + 1), rowCount (words key s) k 2047 : ℝ) : EReal) := by
  refine laneSums_apply _ (fun k => rowCount (words key s) k 2047) s (fun l => ?_) l
  refine Eq.trans ?_ (cs_apply key s 2047 l)
  unfold lastRow
  pointwise

theorem counts_apply (key : Keys) (s : Fin 8) (r : Fin 2048) (l : Fin 128) :
    counts (F := Ideal) (rowSums (labs (shapeCast D key (by decide))))
      (laneSums (lastRow (rowSums (labs (shapeCast D key (by decide)))))) (ix3 s r l) =
      ((cum (words key s) (r.val + 2048 * l.val) : ℝ) : EReal) := by
  have h1 := cs_apply key s r l
  have h2 := cs_apply key s 2047 l
  have h3 := inc_apply key s l
  revert h1 h2 h3
  generalize laneSums (lastRow (rowSums (labs (F := Ideal) (shapeCast D key (by decide))))) = inc
  generalize rowSums (labs (F := Ideal) (shapeCast D key (by decide))) = cs
  intro h1 h2 h3
  rw [cum_eq, EReal.coe_add, EReal.coe_sub, ← h1, ← h3]
  refine Eq.trans ?_ (congrArg (fun z => cs (ix3 s r l) + (inc (ix3 s 0 l) - z)) h2)
  unfold counts lastRow
  pointwise

theorem total_apply (key : Keys) (s : Fin 8) (r : Fin 2048) (l : Fin 128) :
    total (F := Ideal) (laneSums (lastRow (rowSums (labs (shapeCast D key (by decide)))))) (ix3 s r l) =
      ((cum (words key s) 262143 : ℝ) : EReal) := by
  have h3 := inc_apply key s 127
  revert h3
  generalize laneSums (lastRow (rowSums (labs (F := Ideal) (shapeCast D key (by decide))))) = inc
  intro h3
  rw [show 262143 = 2047 + 2048 * 127 from rfl, cum_eq, add_sub_cancel]
  refine Eq.trans ?_ h3
  unfold total
  pointwise

/-- The position of a row and lane, as the program computes it. -/
theorem position_toInt (r : Fin 2048) (l : Fin 128) :
    (IntOp.addi (BitVec.ofNat 32 r.val) (IntOp.muli 2048#32 (BitVec.ofNat 32 l.val))).toInt = ((r.val + 2048 * l.val : ℕ) : ℤ) := by
  have hr := r.isLt
  have hl := l.isLt
  unfold IntOp.addi IntOp.muli
  have h : (BitVec.ofNat 32 r.val + 2048#32 * BitVec.ofNat 32 l.val).toNat = r.val + 2048 * l.val := by
    simp only [BitVec.toNat_add, BitVec.toNat_mul, BitVec.toNat_ofNat]; omega
  rw [BitVec.toInt_eq_toNat_of_lt (by omega), h]

/-- The Jaccard loss of the prefix that ends at a row and lane. -/
theorem jacc_apply (key : Keys) (cnt tot : FVec Ideal D .f32) (s : Fin 8)
    (hc : ∀ (r : Fin 2048) (l : Fin 128), cnt (ix3 s r l) = ((cum (words key s) (r.val + 2048 * l.val) : ℝ) : EReal))
    (ht : ∀ (r : Fin 2048) (l : Fin 128), tot (ix3 s r l) = ((cum (words key s) 262143 : ℝ) : EReal)) (r : Fin 2048) (l : Fin 128) :
    jacc cnt tot (ix3 s r l) =
      ((jac (cum (words key s) 262143) (cum (words key s) (r.val + 2048 * l.val)) (r.val + 2048 * l.val) : ℝ) : EReal) := by
  have hr := r.isLt
  have hl := l.isLt
  unfold jacc places
  pointwise
  refine jac_div _ _ _ (cum_le (by omega)) _ _ ?_ ?_
  · rw [hc, ht, EReal.coe_sub]
  · rw [hc, ht, show ∀ w : BitVec 32, FloatOps.sitofp (F := Ideal) FTy.f32 w = ((w.toInt : ℝ) : EReal) from fun _ => rfl, position_toInt, EReal.coe_sub, EReal.coe_add, EReal.coe_add]
    rfl

theorem before_apply (key : Keys) (J : FVec Ideal D .f32) (s : Fin 8) (f : ℕ → ℝ)
    (hJ : ∀ (r : Fin 2048) (l : Fin 128), J (ix3 s r l) = ((f (r.val + 2048 * l.val) : ℝ) : EReal)) (r : Fin 2048) (l : Fin 128) :
    before J (ix3 s r l) =
      ((if r.val + 2048 * l.val = 0 then 0 else f (r.val + 2048 * l.val - 1) : ℝ) : EReal) := by
  unfold before
  pointwise
  split
  · rename_i h1
    have h1 : r.val < 1 := h1
    split
    · rename_i h2
      have h2 : l.val < 1 := h2
      rw [if_pos (show r.val + 2048 * l.val = 0 by omega)]; rfl
    · rename_i h2
      have h2 : ¬ l.val < 1 := h2
      refine (hJ _ _).trans ?_
      rw [if_neg (show ¬ r.val + 2048 * l.val = 0 by omega)]
      congr 2
      show 2047 + r.val + 2048 * (l.val - 1) = _
      omega
  · rename_i h1
    have h1 : ¬ r.val < 1 := h1
    refine (hJ _ _).trans ?_
    rw [if_neg (show ¬ r.val + 2048 * l.val = 0 by omega)]
    congr 2
    show r.val - 1 + 2048 * l.val = _
    omega

/-- The pattern a key stands for, as the program selects it. -/
theorem select_pattern (k : BitVec 32) :
    Scalar.select (IntOp.cmpi .sge k 0#32) k (IntOp.xori k 2147483647#32) = pattern k := by
  unfold pattern Scalar.select IntOp.cmpi IntOp.xori
  by_cases h : 0 ≤ k.toInt
  · have : (0#32).sle k = true := by rw [BitVec.sle_iff_toInt_le]; simpa using h
    simp [h, this]
  · have : (0#32).sle k = false := by rw [Bool.eq_false_iff, ne_eq, BitVec.sle_iff_toInt_le]; simpa using h
    simp [h, this]

theorem terms_apply (key : Keys) (J : FVec Ideal D .f32) (s : Fin 8) (r : Fin 2048) (l : Fin 128)
    (hJ : ∀ (r : Fin 2048) (l : Fin 128), J (ix3 s r l) =
      ((jac (cum (words key s) 262143) (cum (words key s) (r.val + 2048 * l.val)) (r.val + 2048 * l.val) : ℝ) : EReal)) :
    terms (shapeCast D key (by decide)) J (ix3 s r l) = share (words key s) (cum (words key s) 262143) (r.val + 2048 * l.val) := by
  have hb := before_apply key J s (fun p => jac (cum (words key s) 262143) (cum (words key s) p) p) hJ r l
  have hk := kp_apply key s r l
  revert hk
  generalize shapeCast D key _ = kp
  intro hk
  unfold terms errs
  pointwise
  rw [hb, hJ, ← EReal.coe_sub, hk, select_pattern, zero_sub]
  rfl

theorem addAll_eq (x : FVec Ideal D .f32) : addAll x = ∑ s : Fin 8, ∑ r : Fin 2048, ∑ l : Fin 128, x (ix3 s r l) := by
  rw [← sum_idx3]
  unfold addAll
  pointwise
  rw [Ideal.reduceAdd_total _ (by decide)]
  unfold shapeCast
  exact Equiv.sum_comp (Shape.reshapeEquiv _) x

/-- The loss of the eight samples of a block is the sum of their Lovász losses. -/
theorem loss_eq (key : Keys) : loss (F := Ideal) key = ∑ s : Fin 8, lovasz (words key s) 262144 := by
  unfold loss lovasz
  simp only
  rw [addAll_eq]
  refine sum_congr rfl fun s _ => ?_
  rw [← sum_positions]
  refine sum_congr rfl fun r _ => sum_congr rfl fun l _ => ?_
  exact terms_apply key _ s r l (jacc_apply key _ _ s (counts_apply key s) (total_apply key s))

end Lovasz

end
-- ==== Proof.RefValue.lean ====
module

public import proofs.«01_k».proof.Proof.Reference
public import proofs.«01_k».proof.Proof.Scans
public import Idealize.ShloMosaic.Lib.SortFacts
public import Idealize.ShloMosaic.Lib.Routing.Ops

@[expose] public section

/-!
# The reference's result as a sum of Lovász losses
-/

noncomputable section

namespace Lovasz

open Idealize.ShloMosaic Cert.ReferenceIdeal Cert.ReferenceIdeal.Gen Finset

/-- The number of pixels of a sample. -/
abbrev pixels : ℕ := 147456

/-- The keys of sample `b`, pixel by pixel. -/
def datum (x : IVec S16x384x384 32) (b : Fin 16) (i : Fin pixels) : BitVec 32 :=
  x (ix3 b ⟨i.val / 384, by have := i.isLt; unfold pixels at this; omega⟩ ⟨i.val % 384, Nat.mod_lt _ (by norm_num)⟩)

theorem margins_apply (x : IVec S16x384x384 32) (b : Fin 16) (i : Fin pixels) :
    margins (F := Ideal) x (ix2 b i) = -dec (datum x b i) := by
  unfold margins
  pointwise
  rw [select_pattern]
  rfl

theorem marks_apply (x : IVec S16x384x384 32) (b : Fin 16) (i : Fin pixels) :
    marks x (ix2 b i) = datum x b i &&& 1#32 := by
  unfold marks
  pointwise
  rfl

/-! ## The order of a row -/

/-- The pixel a row's entry comes from when the row is sorted by descending error. -/
def origin (x : IVec S16x384x384 32) (b : Fin 16) : Fin pixels → Fin pixels :=
  sortedFrom fun k k' => decide (dec (datum x b k) < dec (datum x b k'))

/-- The reference's comparator asks whether the first value is smaller. -/
theorem before_iff (a b : EReal) (i j : BitVec 32) :
    (comparator_f32_i32_d1 (F := Ideal) (a, i) (b, j) == 1#1) = decide (a < b) := by
  have hz : ∀ c : EReal, Scalar.select (FloatOps.cmpf (F := Ideal) (φ := .f32) .une c c) (FloatOps.ofBits (F := Ideal) .f32 0x7FC00000#32)
      (Scalar.select (FloatOps.cmpf (F := Ideal) (φ := .f32) .oeq c (FloatOps.ofBits (F := Ideal) .f32 0x00000000#32))
        (FloatOps.ofBits (F := Ideal) .f32 0x00000000#32) c) = c := by
    intro c
    have h0 : FloatOps.ofBits (F := Ideal) .f32 0x00000000#32 = (0 : EReal) := Ideal.ofBits_zero_f32
    rw [h0]
    have h1 : FloatOps.cmpf (F := Ideal) (φ := .f32) .une c c = 0#1 := by
      show Ideal.cmp .une c c = 0#1
      simp [Ideal.cmp]
    rw [h1]
    show (Scalar.select (Ideal.cmp .oeq c 0) 0 c : EReal) = c
    by_cases h : c = 0
    · subst h; unfold Scalar.select; split <;> rfl
    · simp [Ideal.cmp, Scalar.select, h]
  unfold comparator_f32_i32_d1
  simp only [hz]
  show (Ideal.cmp .olt a b == 1#1) = _
  by_cases h : a < b <;> simp [Ideal.cmp, h]

/-- A sort along the rows carries the second operand as it sorts the pairs. -/
theorem sort2_row {R C : ℕ} {α β : Type} (cmp : α × β → α × β → BitVec 1) (x : (⟨2, ![R, C]⟩ : Shape).Idx → α)
    (y : (⟨2, ![R, C]⟩ : Shape).Idx → β) (b : Fin R) (j : Fin C) :
    (Host.sort2 ⟨2, ![R, C]⟩ 1 cmp x y).2 (ix2 b j) =
      y (ix2 b (sortedFrom (fun k k' => cmp (x (ix2 b k), y (ix2 b k)) (x (ix2 b k'), y (ix2 b k')) == 1#1) j)) := by
  have hal : ∀ k : Fin C, (ix2 b j : (⟨2, ![R, C]⟩ : Shape).Idx).along (1 : Fin 2) k = ix2 b k := by
    intro k
    funext a
    match a with
    | ⟨0, _⟩ => rfl
    | ⟨1, _⟩ => rfl
  have hf : (fun k : Fin C => (ix2 b j : (⟨2, ![R, C]⟩ : Shape).Idx).along (1 : Fin 2) k) = fun k => ix2 b k := funext hal
  unfold Host.sort2
  rw [dif_pos (show 1 < 2 by norm_num)]
  show y ((fun k : Fin C => (ix2 b j : (⟨2, ![R, C]⟩ : Shape).Idx).along (1 : Fin 2) k) (sortedFrom (fun k k' : Fin C =>
    cmp (x ((fun k : Fin C => (ix2 b j : (⟨2, ![R, C]⟩ : Shape).Idx).along (1 : Fin 2) k) k),
        y ((fun k : Fin C => (ix2 b j : (⟨2, ![R, C]⟩ : Shape).Idx).along (1 : Fin 2) k) k))
      (x ((fun k : Fin C => (ix2 b j : (⟨2, ![R, C]⟩ : Shape).Idx).along (1 : Fin 2) k) k'),
        y ((fun k : Fin C => (ix2 b j : (⟨2, ![R, C]⟩ : Shape).Idx).along (1 : Fin 2) k) k')) == 1#1) j)) = _
  rw [hf]

theorem iota_row (b : Fin 16) (j : Fin pixels) :
    broadcastInDim S16x147456 ![1] bcast_S147456_S16x147456_1 (iotaInDim S147456 32 0) (ix2 b j) = BitVec.ofNat 32 j.val := by
  pointwise

theorem order_apply (x : IVec S16x384x384 32) (b : Fin 16) (j : Fin pixels) :
    order (margins (F := Ideal) x) (ix2 b j) = BitVec.ofNat 32 (origin x b j).val := by
  have hm : ∀ i : Fin pixels, Host.negf (margins (F := Ideal) x) (ix2 b i) = dec (datum x b i) := fun i =>
    (congrArg (fun z : EReal => -z) (margins_apply x b i)).trans (neg_neg _)
  unfold order origin
  refine (sort2_row _ _ _ b j).trans ((iota_row b _).trans ?_)
  congr 3
  funext k k'
  rw [before_iff, hm, hm]

theorem starts_apply (p : IVec S16x147456 32) (b : Fin 16) (j : Fin pixels) (n : ℕ) (hn : n < pixels)
    (hp : p (ix2 b j) = BitVec.ofNat 32 n) : (starts p (ix3 b j 0)).toInt = n := by
  have hn' : n < 147456 := hn
  have ht : (BitVec.ofNat 32 n).toInt = n := by
    have h : (BitVec.ofNat 32 n).toNat = n := by simp only [BitVec.toNat_ofNat]; omega
    rw [BitVec.toInt_eq_toNat_of_lt (by omega), h]
  unfold starts
  pointwise
  rw [hp]
  have : (BitVec.ofNat 32 n).slt 0#32 = false := by
    rw [Bool.eq_false_iff, ne_eq, BitVec.slt_iff_toInt_lt, ht]; simp
  unfold Scalar.select IntOp.cmpi
  simp [this, ht]

/-- The gather of one entry a start, row by row. -/
abbrev rowDims (R C : ℕ) (wf : GatherDims.WF ⟨2, ![R, C]⟩ ⟨3, ![R, C, 1]⟩ ⟨2, ![R, C]⟩ [] [1] [0] [1] [0] 2 ![1, 1]) :
    GatherDims ⟨2, ![R, C]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- That gather reads, in its own row, the entry the start names. -/
theorem rowDims_apply {R C : ℕ} (wf : GatherDims.WF ⟨2, ![R, C]⟩ ⟨3, ![R, C, 1]⟩ ⟨2, ![R, C]⟩ [] [1] [0] [1] [0] 2 ![1, 1])
    {α : Type} (y : (⟨2, ![R, C]⟩ : Shape).Idx → α) (q : IVec ⟨3, ![R, C, 1]⟩ 32) (b : Fin R) (j k : Fin C)
    (hq : (q (ix3 b j 0)).toInt = k.val) : Host.gather (rowDims R C wf) y q (ix2 b j) = y (ix2 b k) := by
  have hk := k.isLt
  unfold Host.gather
  congr 1
  funext a
  refine Fin.ext ?_
  show (rowDims R C wf).start (ix2 b j) q a + (rowDims R C wf).batchCoord (ix2 b j) a + (rowDims R C wf).offCoord (ix2 b j) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowDims R C wf).startIndexMap from List.mem_singleton.mpr rfl)]
    have hsi : (rowDims R C wf).siIdx (ix2 b j) ⟨List.idxOf (1 : Fin 2) (rowDims R C wf).startIndexMap,
        List.idxOf_lt_length_iff.2 (List.mem_singleton.mpr rfl)⟩ = ix3 b j 0 := by
      funext c; refine Fin.ext ?_
      match c with
      | ⟨0, _⟩ => rfl
      | ⟨1, _⟩ => rfl
      | ⟨2, _⟩ => rfl
    rw [hsi]
    show min (q (ix3 b j 0)).toInt.toNat (C - 1) = k.val
    omega

/-- A row read in an order. -/
theorem inOrder_apply {α : Type} (y : S16x147456.Idx → α) (p : IVec S16x147456 32) (b : Fin 16) (j k : Fin pixels)
    (hp : p (ix2 b j) = BitVec.ofNat 32 k.val) : inOrder y p (ix2 b j) = y (ix2 b k) :=
  rowDims_apply _ y (starts p) b j k (starts_apply p b j k.val k.isLt hp)

/-! ## The running sums -/

theorem foldl_add {ι : Type} (l : List ι) (g : ι → EReal) (z : EReal) : l.foldl (fun r n => r + g n) z = z + (l.map g).sum := by
  induction l generalizing z with
  | nil => simp
  | cons a l ih => rw [List.foldl_cons, ih, List.map_cons, List.sum_cons, add_assoc]

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A window of a row's whole length that ends at each entry sums the row up to that entry. -/
theorem window_sum {R C M : ℕ} (hC : M + 1 = C) (y : (⟨2, ![R, C]⟩ : Shape).Idx → EReal) (f : ℕ → ℝ) (b : Fin R)
    (hy : ∀ i : Fin C, y (ix2 b i) = ((f i : ℝ) : EReal))
    (h : (⟨2, ![R, C]⟩ : Shape).ReduceWindows ![1, C] ![1, 1] ![0, M] ![0, 0] ⟨2, ![R, C]⟩) (hu : 0 < (⟨0, ![]⟩ : Shape).numel) (j : Fin C) :
    Host.reduceWindow (u := ⟨0, ![]⟩) (· + ·) ![1, C] ![1, 1] ![0, M] ![0, 0] y (fun _ => (0 : EReal)) h hu (ix2 b j) =
      ((∑ k ∈ range (j.val + 1), f k : ℝ) : EReal) := by
  subst hC
  have hj := j.isLt
  have hn : (Routing.shape2 1 (M + 1)).numel = M + 1 := Routing.numel2 _
  unfold Host.reduceWindow
  refine (foldl_add _ _ _).trans ?_
  rw [zero_add, ← Fin.sum_univ_def]
  refine (sum_congr rfl fun n _ => show _ = (((fun n => if M ≤ j.val + n then f (j.val + n - M) else 0) n.val : ℝ) : EReal) from ?_).trans ?_
  · have hw0 : ((Routing.shape2 1 (M + 1)).rowMajor.symm n 0).val = 0 := by rw [Routing.symm2]; rfl
    have hw : ((Routing.shape2 1 (M + 1)).rowMajor.symm n 1).val = n.val := by rw [Routing.symm2]; rfl
    have hl : n.val < M + 1 := (n.cast hn).isLt
    have e0 : b.val * 1 + ((Routing.shape2 1 (M + 1)).rowMajor.symm n 0).val = b.val := by rw [hw0, Nat.mul_one, Nat.add_zero]
    have e1 : j.val * 1 + ((Routing.shape2 1 (M + 1)).rowMajor.symm n 1).val = j.val + n.val := by rw [hw, Nat.mul_one]
    dsimp only
    split
    · next hin =>
      have h1 := hin 1
      change M ≤ j.val * 1 + ((Routing.shape2 1 (M + 1)).rowMajor.symm n 1).val ∧
        j.val * 1 + ((Routing.shape2 1 (M + 1)).rowMajor.symm n 1).val - M < M + 1 at h1
      rw [e1] at h1
      rw [if_pos h1.1]
      refine (congrArg y (funext fun a => Fin.ext ?_)).trans (hy ⟨j.val + n.val - M, by omega⟩)
      match a with
      | ⟨0, _⟩ =>
        show b.val * 1 + ((Routing.shape2 1 (M + 1)).rowMajor.symm n 0).val - 0 = b.val
        rw [e0, Nat.sub_zero]
      | ⟨1, _⟩ =>
        show j.val * 1 + ((Routing.shape2 1 (M + 1)).rowMajor.symm n 1).val - M = j.val + n.val - M
        rw [e1]
    · next hin =>
      rw [if_neg fun hle => hin fun a => by
        match a with
        | ⟨0, _⟩ =>
          show 0 ≤ b.val * 1 + ((Routing.shape2 1 (M + 1)).rowMajor.symm n 0).val ∧
            b.val * 1 + ((Routing.shape2 1 (M + 1)).rowMajor.symm n 0).val - 0 < R
          rw [e0]
          exact ⟨Nat.zero_le _, b.isLt⟩
        | ⟨1, _⟩ =>
          show M ≤ j.val * 1 + ((Routing.shape2 1 (M + 1)).rowMajor.symm n 1).val ∧
            j.val * 1 + ((Routing.shape2 1 (M + 1)).rowMajor.symm n 1).val - M < M + 1
          rw [e1]
          omega]
      rfl
  · refine (coe_sum _ _).symm.trans ?_
    rw [Fin.sum_univ_eq_sum_range (fun n => if M ≤ j.val + n then f (j.val + n - M) else 0),
      ← window_full f (M + 1) j.val hj]
    refine congrArg Real.toEReal ((congrArg (fun K => ∑ n ∈ range K, if M ≤ j.val + n then f (j.val + n - M) else 0) hn).trans ?_)
    rw [← sum_range_reflect]
    unfold window
    refine sum_congr rfl fun k hk => ?_
    rw [mem_range] at hk
    by_cases hkj : k ≤ j.val
    · rw [if_pos hkj, if_pos (by omega)]; congr 1; omega
    · rw [if_neg hkj, if_neg (by omega)]

/-- The running sum of a row of reals. -/
theorem running_apply (y : FVec Ideal S16x147456 .f32) (f : ℕ → ℝ) (b : Fin 16)
    (hy : ∀ i : Fin pixels, y (ix2 b i) = ((f i : ℝ) : EReal)) (j : Fin pixels) :
    running y (ix2 b j) = ((∑ k ∈ range (j.val + 1), f k : ℝ) : EReal) := by
  have hv : broadcastInDim S_ ![] bcast_S_S_ (constant (F := Ideal) S_ .f32 0x00000000#32) (Shape.Idx.first h_S_) = 0 :=
    Ideal.ofBits_zero_f32
  unfold running Host.reduceWindowAdd
  rw [hv, Ideal.hostReduceWindowAdd_def]
  unfold Ideal.hostReduceWindowAdd
  exact window_sum (C := 147456) (M := 147455) (by norm_num) y f b hy _ _ j

theorem totals_apply (y : FVec Ideal S16x147456 .f32) (f : ℕ → ℝ) (b : Fin 16)
    (hy : ∀ i : Fin pixels, y (ix2 b i) = ((f i : ℝ) : EReal)) (j : Fin pixels) :
    totals y (ix2 b j) = ((∑ k ∈ range 147456, f k : ℝ) : EReal) := by
  unfold totals
  pointwise
  rw [← Fin.sum_univ_eq_sum_range f, coe_sum]
  exact sum_congr rfl fun i _ => hy i

/-! ## The loss of a row -/

/-- The Jaccard losses of a row of labels. -/
theorem jaccard_apply (y : FVec Ideal S16x147456 .f32) (v : ℕ → BitVec 32) (b : Fin 16)
    (hy : ∀ i : Fin pixels, y (ix2 b i) = ((lab (v i) : ℝ) : EReal)) (j : Fin pixels) :
    jaccard y (ix2 b j) = ((jac (cum v 147455) (cum v j) j : ℝ) : EReal) := by
  have hj : j.val < 147456 := j.isLt
  have h1 : ∀ i : Fin pixels, subf (all (constant S_ FTy.f32 1065353216#32)) y (ix2 b i) = (((fun k => 1 - lab (v k)) i.val : ℝ) : EReal) := by
    intro i
    pointwise
    rw [hy, EReal.coe_sub, EReal.coe_one]
  have ht : totals y (ix2 b j) = ((cum v 147455 : ℝ) : EReal) := totals_apply y (fun k => lab (v k)) b hy j
  have hr : running y (ix2 b j) = ((cum v j : ℝ) : EReal) := running_apply y (fun k => lab (v k)) b hy j
  unfold jaccard
  pointwise
  rw [ht, hr, running_apply _ (fun k => 1 - lab (v k)) b h1]
  refine jac_div _ _ _ (cum_le (by omega)) _ _ (EReal.coe_sub _ _).symm ?_
  rw [← EReal.coe_add]
  refine congrArg Real.toEReal ?_
  rw [sum_sub_distrib]
  simp only [sum_const, card_range, nsmul_eq_mul, mul_one]
  unfold cum
  push_cast
  ring

/-- The growths of a row. -/
theorem growths_apply (v : FVec Ideal S16x147456 .f32) (f : ℕ → ℝ) (b : Fin 16)
    (hv : ∀ i : Fin pixels, v (ix2 b i) = ((f i : ℝ) : EReal)) (j : Fin pixels) :
    growths v (ix2 b j) = ((f j - (if j.val = 0 then 0 else f (j.val - 1)) : ℝ) : EReal) := by
  unfold growths Cert.ReferenceIdeal.Value.fn_main_v48
  pointwise
  split
  · rename_i h
    have h : j.val < 1 := h
    rw [if_pos (show j.val = 0 by omega), sub_zero]
    exact hv j
  · rename_i h
    have h : ¬ j.val < 1 := h
    rw [if_neg (show ¬ j.val = 0 by omega), EReal.coe_sub]
    refine congr (congrArg HSub.hSub ((hv _).trans ?_)) (hv _)
    congr 2
    show 1 + (j.val - 1) = j.val
    omega

/-- The keys of a sample by descending error. -/
def ranked (x : IVec S16x384x384 32) (b : Fin 16) (n : ℕ) : BitVec 32 :=
  if h : n < pixels then datum x b (origin x b ⟨n, h⟩) else 0#32

theorem ranked_fin (x : IVec S16x384x384 32) (b : Fin 16) (j : Fin pixels) : ranked x b j = datum x b (origin x b j) := by
  unfold ranked; rw [dif_pos j.isLt]

/-- A sample's loss is its Lovász loss in descending order of its errors. -/
theorem rowLosses_apply (x : IVec S16x384x384 32) (b : Fin 16) :
    rowLosses (F := Ideal) (inOrder (margins (F := Ideal) x) (order (margins (F := Ideal) x)))
      (sitofp .f32 (inOrder (marks x) (order (margins (F := Ideal) x)))) (ix1 b) = lovasz (ranked x b) 147456 := by
  have he : ∀ j : Fin pixels, inOrder (margins (F := Ideal) x) (order (margins (F := Ideal) x)) (ix2 b j) = -dec (ranked x b j) := by
    intro j
    rw [inOrder_apply _ _ b j _ (order_apply x b j), margins_apply, ranked_fin]
  have hy : ∀ j : Fin pixels, sitofp (F := Ideal) .f32 (inOrder (marks x) (order (margins (F := Ideal) x))) (ix2 b j) =
      ((lab (ranked x b j) : ℝ) : EReal) := by
    intro j
    show (((inOrder (marks x) (order (margins (F := Ideal) x)) (ix2 b j)).toInt : ℝ) : EReal) = _
    rw [inOrder_apply _ _ b j _ (order_apply x b j), marks_apply, ranked_fin]
    rfl
  revert he hy
  generalize inOrder (margins (F := Ideal) x) (order (margins (F := Ideal) x)) = e
  generalize sitofp (F := Ideal) .f32 (inOrder (marks x) (order (margins (F := Ideal) x))) = y
  intro he hy
  have hg := growths_apply (jaccard y) (fun i => jac (cum (ranked x b) 147455) (cum (ranked x b) i) i) b
    (jaccard_apply y (ranked x b) b hy)
  unfold rowLosses
  pointwise
  unfold lovasz
  rw [← Fin.sum_univ_eq_sum_range]
  refine sum_congr rfl fun j _ => ?_
  rw [he, hg]
  rfl

/-- The reference's result: the sum of the samples' Lovász losses, divided by their number. -/
theorem refOut_apply (x : IVec S16x384x384 32) (i : S1x128.Idx) :
    refOut (F := Ideal) x i = Ideal.div (∑ b : Fin 16, lovasz (ranked x b) 147456) (Ideal.ofBits .f32 0x41800000#32) := by
  rw [show (∑ b : Fin 16, lovasz (ranked x b) 147456) = _ from sum_congr rfl fun b _ => (rowLosses_apply x b).symm]
  unfold refOut
  generalize rowLosses (F := Ideal) _ _ = w
  unfold meanLoss
  rw [eq_ix2 i]
  pointwise

end Lovasz

end
-- ==== Proof.Infinite.lean ====
module

public import proofs.«01_k».proof.Proof.Scans

@[expose] public section

/-!
# Sequences that begin with an infinite error
-/

namespace Lovasz

open Idealize.ShloMosaic Idealize.ShloMosaic.TotalOrder Finset

/-- A key below that of minus infinity stands for minus infinity too. -/
theorem dec_low {k : BitVec 32} (h : k.toInt < -2139095041) : dec k = ⊥ := by
  have hm := (pattern_facts k).2
  unfold size mag expo frac at hm
  rw [if_neg (by omega)] at hm
  have hf := ((pattern k).extractLsb' 0 23).isLt
  have he := ((pattern k).extractLsb' 23 8).isLt
  unfold dec Ideal.ieee
  simp only
  rw [if_pos (by omega), if_neg (by omega)]

theorem lab_le_one (k : BitVec 32) : lab k ≤ 1 := by
  unfold lab
  have h : (k &&& 1#32).toNat ≤ 1 := by rw [BitVec.toNat_and]; exact Nat.and_le_right
  have : (k &&& 1#32).toInt ≤ 1 := by
    rw [BitVec.toInt_eq_toNat_cond]
    split <;> omega
  exact_mod_cast this

/-- The Jaccard loss does not fall from one prefix to the next. -/
theorem jac_mono {g c d : ℝ} {i : ℕ} (h1 : c ≤ d) (h2 : d ≤ c + 1) (hd : d ≤ g) : jac g c i ≤ jac g d (i + 1) := by
  have he := tiny_eq.2
  have hi : (0 : ℝ) ≤ i := Nat.cast_nonneg i
  unfold jac
  push_cast
  refine sub_le_sub_left (mul_le_mul (by linarith) (inv_anti₀ (by linarith) (by linarith)) ?_ (by linarith)) 1
  exact (inv_pos.2 (by linarith)).le

theorem jac_pos {g c : ℝ} (h : c ≤ g) : 0 < jac g c 0 := by
  have he := tiny_eq.2
  unfold jac
  rw [← div_eq_mul_inv, sub_pos, div_lt_one (by push_cast; linarith)]
  push_cast
  linarith

theorem growth_pos (v : ℕ → BitVec 32) {g : ℝ} (h : cum v 0 ≤ g) : 0 < growth v g 0 := by
  unfold growth
  rw [if_pos rfl, sub_zero]
  exact jac_pos h

theorem growth_nonneg (v : ℕ → BitVec 32) {g : ℝ} {i : ℕ} (h : cum v i ≤ g) : 0 ≤ growth v g i := by
  cases i with
  | zero => exact (growth_pos v h).le
  | succ i =>
    unfold growth
    rw [if_neg (Nat.succ_ne_zero i), sub_nonneg, Nat.add_sub_cancel]
    refine jac_mono (cum_le (Nat.le_succ i)) ?_ h
    unfold cum
    rw [sum_range_succ _ (i + 1)]
    exact add_le_add_right (lab_le_one _) _

/-- The loss of a sequence whose first error is infinite is infinite. -/
theorem lovasz_top {v : ℕ → BitVec 32} {n : ℕ} (h0 : 0 < n) (h : dec (v 0) = ⊥) : lovasz v n = ⊤ := by
  have hz : share v (cum v (n - 1)) 0 = ⊤ := by
    unfold share
    rw [h, EReal.neg_bot, max_eq_left le_top]
    exact EReal.top_mul_coe_of_pos (growth_pos v (cum_le (Nat.zero_le _)))
  unfold lovasz
  refine top_le_iff.1 (hz.symm.le.trans (single_le_sum (f := fun i => share v (cum v (n - 1)) i) (fun i hi => ?_) (mem_range.2 h0)))
  exact mul_nonneg (le_max_right _ _) (EReal.coe_nonneg.2 (growth_nonneg v (cum_le (by have := mem_range.1 hi; omega))))

end Lovasz

end
-- ==== Proof.Joined.lean ====
module

public import proofs.«01_k».proof.Proof.Extract
public import proofs.«01_k».proof.Proof.RefValue
public import proofs.«01_k».proof.Proof.Infinite
public import proofs.«01_k».proof.Proof.Gen.Pre_at_most_infinity
public import Idealize.ShloMosaic.Lib.ReduceAll

@[expose] public section

/-!
# The kernel's result is the reference's
-/

noncomputable section

namespace Lovasz

open Idealize.ShloMosaic Finset

abbrev Input : Shape := ⟨3, ![16, 384, 384]⟩

/-! ## Lists of words as sums of singletons -/

/-- The multiset of a sequence's first words, as a sum. -/
theorem coe_map_range (v : ℕ → BitVec 32) (n : ℕ) :
    (((List.range n).map v : List (BitVec 32)) : Multiset (BitVec 32)) = ∑ i ∈ range n, {v i} := by
  induction n with
  | zero => simp
  | succ n ih =>
    rw [List.range_succ, List.map_append, ← Multiset.coe_add, ih, sum_range_succ]
    rfl

/-- The keys of sample `b` as a sequence. -/
def data (x : IVec Input 32) (b : Fin 16) (n : ℕ) : BitVec 32 := if h : n < pixels then datum x b ⟨n, h⟩ else 0#32

theorem data_fin (x : IVec Input 32) (b : Fin 16) (j : Fin pixels) : data x b j = datum x b j := by
  unfold data; rw [dif_pos j.isLt]

/-! ## The reference's order -/

theorem ranked_perm (x : IVec Input 32) (b : Fin 16) :
    ((List.range pixels).map (ranked x b)).Perm ((List.range pixels).map (data x b)) := by
  rw [← Multiset.coe_eq_coe, coe_map_range, coe_map_range, ← Fin.sum_univ_eq_sum_range (fun i => ({ranked x b i} : Multiset (BitVec 32))),
    ← Fin.sum_univ_eq_sum_range (fun i => ({data x b i} : Multiset (BitVec 32)))]
  simp only [ranked_fin, data_fin]
  exact Function.Bijective.sum_comp ⟨sortedFrom_injective _, sortedFrom_surjective _⟩ fun i => ({datum x b i} : Multiset (BitVec 32))

theorem ranked_sorted (x : IVec Input 32) (b : Fin 16) (i j : ℕ) (hij : i ≤ j) (hj : j < pixels) :
    dec (ranked x b i) ≤ dec (ranked x b j) := by
  rcases hij.lt_or_eq with h | h
  · have := sortedFrom_noInversion (fun k k' : Fin pixels => decide (dec (datum x b k) < dec (datum x b k')))
      (fun k k' => decide (dec (datum x b k) < dec (datum x b k')))
      (fun a c h => by simpa using le_of_lt (of_decide_eq_true h)) (fun _ _ h => h)
      (fun a c d h1 h2 => by
        simp only [decide_eq_false_iff_not, not_lt] at h1 h2 ⊢
        exact h2.trans h1) ⟨i, by omega⟩ ⟨j, hj⟩ h
    simp only [decide_eq_false_iff_not, not_lt] at this
    unfold ranked
    rw [dif_pos (by omega), dif_pos hj]
    exact this
  · rw [h]

/-! ## The kernel's order -/

/-- The words of a sample after the last pass are its words before the first. -/
theorem words_sum (y : IVec X 32) (s : Fin 8) :
    ∑ i ∈ range 262144, ({words (sorted y) s i} : Multiset (BitVec 32)) = ∑ i ∈ range 262144, {words (fill y) s i} := by
  obtain ⟨σ, hσ⟩ := sorted_perm y s
  rw [← Fin.sum_univ_eq_sum_range (fun i => ({words (sorted y) s i} : Multiset (BitVec 32))),
    ← Fin.sum_univ_eq_sum_range (fun i => ({words (fill y) s i} : Multiset (BitVec 32)))]
  have h : ∀ (key : Keys) (p : Fin N), words key s p = key (place s p) := fun key p => by unfold words; rw [dif_pos p.isLt]
  have hw : ∀ p : Fin N, words (sorted y) s p = words (fill y) s (σ p) := fun p => by
    rw [h, h]
    exact BitVec.eq_of_toInt_eq (congrFun hσ p)
  refine (sum_congr rfl fun p _ => congrArg (fun z => ({z} : Multiset (BitVec 32))) (hw p)).trans ?_
  exact Equiv.sum_comp σ fun p : Fin N => ({words (fill y) s p} : Multiset (BitVec 32))

theorem fill_words (y : IVec X 32) (s : Fin 8) (r l : ℕ) (hr : r < 2048) (hl : l < 128) :
    words (fill y) s (r + 2048 * l) = fill y (ix2 ⟨2048 * s.val + r, by have := s.isLt; omega⟩ ⟨l, hl⟩) := by
  unfold words place
  rw [dif_pos (show r + 2048 * l < N by unfold N; omega)]
  refine congrArg (fill y) (congr (congrArg ix2 (Fin.ext ?_)) (Fin.ext ?_))
  · show 2048 * s.val + (r + 2048 * l) % 2048 = 2048 * s.val + r; omega
  · show (r + 2048 * l) / 2048 = l; omega

/-- Which sample of the input a block's sample is. -/
def which (t : ℕ) (ht : t < 2) (s : Fin 8) : Fin 16 := ⟨8 * t + s.val, by have := s.isLt; omega⟩

theorem fill_words_data (x : IVec Input 32) (t : ℕ) (ht : t < 2) (s : Fin 8) (r l : ℕ) (hr : r < 1152) (hl : l < 128) :
    words (fill (block x t ht)) s (r + 2048 * l) = data x (which t ht s) (l + 128 * r) := by
  rw [fill_words _ _ _ _ (by omega) hl, show l + 128 * r = r * 128 + l by omega]
  refine (fill_data (block x t ht) s ⟨r, hr⟩ ⟨l, hl⟩).trans ?_
  unfold data
  rw [dif_pos (show r * 128 + l < pixels by unfold pixels; omega)]
  unfold block datum
  refine congrArg x (funext fun a => ?_)
  match a with
  | ⟨0, _⟩ => rfl
  | ⟨1, _⟩ => rfl
  | ⟨2, _⟩ => rfl

theorem fill_words_pad (y : IVec X 32) (s : Fin 8) (r l : ℕ) (hr : r < 896) (hl : l < 128) :
    words (fill y) s (1152 + r + 2048 * l) = padKey := by
  rw [fill_words _ _ _ _ (by omega) hl]
  refine Eq.trans (congrArg (fill y) (congr (congrArg ix2 (Fin.ext ?_)) rfl)) (fill_pad y s ⟨r, hr⟩ ⟨l, hl⟩)
  show 2048 * s.val + (1152 + r) = 2048 * s.val + 1152 + r
  omega

theorem words_perm (x : IVec Input 32) (t : ℕ) (ht : t < 2) (s : Fin 8) :
    ((List.range 262144).map (words (sorted (block x t ht)) s)).Perm
      ((List.range 147456).map (data x (which t ht s)) ++ List.replicate (262144 - 147456) padKey) := by
  rw [← Multiset.coe_eq_coe, coe_map_range, ← Multiset.coe_add, coe_map_range, words_sum]
  rw [show 262144 = 2048 * 128 from rfl, sum_blocks, sum_comm, show 2048 = 1152 + 896 from rfl, sum_range_add]
  refine congr (congrArg HAdd.hAdd ?_) ?_
  · rw [show 147456 = 128 * 1152 from rfl, sum_blocks]
    refine sum_congr rfl fun r hr => sum_congr rfl fun l hl => ?_
    rw [mem_range] at hr hl
    exact congrArg (fun z => ({z} : Multiset (BitVec 32))) (fill_words_data x t ht s r l hr hl)
  · refine (sum_congr rfl fun r hr => sum_congr rfl fun l hl => show _ = ({padKey} : Multiset (BitVec 32)) from ?_).trans ?_
    · rw [mem_range] at hr hl
      exact congrArg (fun z => ({z} : Multiset (BitVec 32))) (fill_words_pad (block x t ht) s r l hr hl)
    · rw [sum_const, sum_const, card_range, card_range, ← mul_nsmul, Multiset.nsmul_singleton]
      rfl

theorem words_sorted (y : IVec X 32) (s : Fin 8) (i j : ℕ) (hij : i ≤ j) (hj : j < 262144) :
    (words (sorted y) s i).toInt ≤ (words (sorted y) s j).toInt := by
  have hjN : j < N := hj
  unfold words
  rw [dif_pos (show i < N by omega), dif_pos hjN]
  exact sorted_monotone y s (show (⟨i, by omega⟩ : Fin N) ≤ ⟨j, hjN⟩ from hij)

/-- A sample's loss in the kernel's order and in the reference's. -/
theorem lovasz_agree (x : IVec Input 32) (hx : ∀ j, (x j).toInt ≤ 2139095040) (t : ℕ) (ht : t < 2) (s : Fin 8) :
    lovasz (words (sorted (block x t ht)) s) 262144 = lovasz (ranked x (which t ht s)) 147456 := by
  by_cases hlow : ∃ i, i < 147456 ∧ (data x (which t ht s) i).toInt < -2139095041
  · obtain ⟨i, hi, hlt⟩ := hlow
    have hmem : data x (which t ht s) i ∈ (List.range 147456).map (data x (which t ht s)) :=
      List.mem_map.2 ⟨i, List.mem_range.2 hi, rfl⟩
    obtain ⟨p, hp, hpe⟩ := List.mem_map.1 ((words_perm x t ht s).mem_iff.2 (List.mem_append_left _ hmem))
    obtain ⟨q, hq, hqe⟩ := List.mem_map.1 ((ranked_perm x (which t ht s)).mem_iff.2 hmem)
    have h1 := words_sorted (block x t ht) s 0 p (Nat.zero_le _) (List.mem_range.1 hp)
    have h2 := ranked_sorted x (which t ht s) 0 q (Nat.zero_le _) (List.mem_range.1 hq)
    rw [hpe] at h1
    rw [hqe, dec_low hlt, le_bot_iff] at h2
    exact (lovasz_top (by norm_num) (dec_low (h1.trans_lt hlt))).trans (lovasz_top (by norm_num) h2).symm
  · exact lovasz_eq (d := data x (which t ht s)) (by norm_num) (by norm_num)
      (fun i hi => ⟨not_lt.1 fun h => hlow ⟨i, hi, h⟩, by
        unfold data; rw [dif_pos (show i < pixels from hi)]; exact hx _⟩)
      (words_perm x t ht s) (words_sorted (block x t ht) s) (ranked_perm x (which t ht s)) (ranked_sorted x (which t ht s))

/-! ## The mean -/

theorem sixteen : Ideal.ofBits .f32 0x41800000#32 = ((16 : ℝ) : EReal) := by
  unfold Ideal.ofBits Ideal.ieee
  simp
  norm_num
  rw [← EReal.coe_mul]
  norm_num

/-- The mean of sixteen losses, the two halves divided apart. -/
theorem mean_halves (a b : EReal) :
    Ideal.div a (Ideal.ofBits .f32 0x41800000#32) + Ideal.div b (Ideal.ofBits .f32 0x41800000#32) =
      Ideal.div (a + b) (Ideal.ofBits .f32 0x41800000#32) := by
  have h0 : ((16 : ℝ) : EReal) ≠ 0 := by rw [Ne, EReal.coe_eq_zero]; norm_num
  unfold Ideal.div
  rw [sixteen, if_neg h0, if_neg h0, if_neg h0, ← EReal.coe_inv]
  exact (EReal.right_distrib_of_nonneg_of_ne_top (by rw [EReal.coe_nonneg]; norm_num) (EReal.coe_ne_top _) a b).symm

theorem loss_sorted (x : IVec Input 32) (hx : ∀ j, (x j).toInt ≤ 2139095040) (t : ℕ) (ht : t < 2) :
    loss (F := Ideal) (sorted (block x t ht)) = ∑ s : Fin 8, lovasz (ranked x (which t ht s)) 147456 := by
  rw [loss_eq]
  exact sum_congr rfl fun s _ => lovasz_agree x hx t ht s

theorem addLoss_apply (o : FVec Ideal KLane .f32) (l : EReal) (i : KLane.Idx) :
    addLoss (F := Ideal) o l i = o i + Ideal.div l (Ideal.ofBits .f32 0x41800000#32) := by
  unfold addLoss
  rw [shapeCast_self]
  rfl

/-- The kernel's result is the reference's on every array of keys none of which is above that of plus infinity. -/
theorem kernelOut_eq (x : IVec Input 32) (hx : ∀ j, (x j).toInt ≤ 2139095040) : kernelOut (F := Ideal) x = refOut x := by
  funext i
  rw [refOut_apply]
  unfold kernelOut
  rw [addLoss_apply, addLoss_apply, loss_sorted x hx, loss_sorted x hx]
  show Ideal.ofBits .f32 0x00000000#32 + _ + _ = _
  rw [Ideal.ofBits_zero_f32, zero_add, mean_halves]
  refine congrArg (fun z => Ideal.div z (Ideal.ofBits .f32 0x41800000#32)) ?_
  rw [Fin.sum_univ_add (a := 8) (b := 8) (fun b : Fin (8 + 8) => lovasz (ranked x b) 147456)]
  refine congr (congrArg HAdd.hAdd (sum_congr rfl fun s _ => ?_)) (sum_congr rfl fun s _ => ?_)
  · rw [show which 0 (by decide) s = Fin.castAdd 8 s from Fin.ext (by simp [which])]
  · rw [show which 1 (by decide) s = Fin.natAdd 8 s from rfl]

/-! ## The precondition -/

/-- The precondition bounds every key. -/
theorem bound_of_pre (x : IVec Input 32) (h : Cert.Pre_at_most_infinity.fn (F := Ideal) x = fun _ => 1#1) (j : Input.Idx) :
    (x j).toInt ≤ 2139095040 := by
  have : Subsingleton Cert.Pre_at_most_infinity.S_.Idx := ⟨fun a b => funext fun k => k.elim0⟩
  have hj := Host.reduce_andi_all _ _ _ _ (fun k => k.elim0) (congrFun h fun k => k.elim0) j
  have hj : BitVec.ofBool ((x j).sle 2139095040#32) = 1#1 := hj
  have bit : ∀ p : Bool, BitVec.ofBool p = 1#1 → p = true := by decide
  exact BitVec.sle_iff_toInt_le.1 (bit _ hj)

end Lovasz

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_at_most_infinity
public import proofs.«01_k».proof.Proof.Gen.KernelIdeal.Value
public import proofs.«01_k».proof.Proof.Gen.ReferenceIdeal.Run
public import proofs.«01_k».proof.Proof.Joined
public import Idealize.ShloMosaic.Lib.Quiescent
public import Idealize.ShloMosaic.Adequacy
public import Idealize.ShloMosaic.Init

@[expose] public section

noncomputable section

namespace Cert.Proof

open Idealize.ShloMosaic Idealize.SL.Sem

/-- The reference's frame: its run terminates with the argument unchanged, and it has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From equal keys, none above that of plus infinity, the kernel's result and the reference's are the same array. -/
theorem algebraic : Cert.algebraic_KernelIdeal_ReferenceIdeal_pre_at_most_infinity (hKernelIdeal := Cert.KernelIdeal.Gen.facts)
    (hReferenceIdeal := Cert.ReferenceIdeal.Gen.facts) (hPre_at_most_infinity := Cert.Pre_at_most_infinity.Gen.facts) := by
  intro m g m' g' hpre hargs
  refine ⟨fun c => Lovasz.kernelOut (F := Ideal) (m ((c.tc : Thread Cert.KernelIdeal.nD Cert.KernelIdeal.τ).loc Cert.KernelIdeal.main_arg0)),
    Lovasz.kernel_run m g, (θ_run Cert.ReferenceIdeal.defs _ _).mono (fun r h c => ⟨?_, (h c).2⟩)
      (Cert.ReferenceIdeal.Value.run (F := Ideal) m' g')⟩
  refine (h c).1.trans ((Lovasz.result_eq m' c).trans ?_)
  rw [hargs c]
  exact (Lovasz.kernelOut_eq _ (Lovasz.bound_of_pre _ (hpre c))).symm

/-- Every claim of the certificate holds. -/
theorem claim : Cert.Claim := ⟨Cert.Kernel.Gen.facts, Cert.KernelIdeal.Gen.facts, Cert.ReferenceIdeal.Gen.facts,
  Cert.Pre_at_most_infinity.Gen.facts, fun m ρ _ => Cert.Kernel.Gen.frame m ρ, fun m ρ _ => Cert.KernelIdeal.Gen.frame m ρ,
  fun m ρ _ => Cert.KernelIdeal.Gen.frame m ρ, frame_reference, fun m ρ _ => frame_reference m ρ trivial, trivial, algebraic⟩

end Cert.Proof

end
